-- ==== Defs.lean ====
def Pre_Dispatch (m : (ℓ : Loc Cert.Dispatch.nD Cert.Dispatch.τ Cert.Dispatch.sig) → Buf (Elt Bits) ℓ) : Prop :=
  True

def Pre_DispatchReference (m : (ℓ : Loc Cert.DispatchReference.nD Cert.DispatchReference.τ Cert.DispatchReference.sig) → Buf (Elt Bits) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weights_ok_KernelIdeal [hPre_weights_ok_KernelIdeal : Cert.Pre_weights_ok_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_weights_ok_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weights_ok_ReferenceIdeal [hPre_weights_ok_ReferenceIdeal : Cert.Pre_weights_ok_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_ok_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Dispatch [hDispatch : Cert.Dispatch.Facts] : Prop :=
  ∀ (m : (ℓ : Loc Cert.Dispatch.nD Cert.Dispatch.τ Cert.Dispatch.sig) → Buf (Elt Bits) ℓ) (g : Dev Cert.Dispatch.nD → PrngReg), Pre_Dispatch m →
    θ_run (Cert.Dispatch.defs (F := Bits)) (onTc (τ := Cert.Dispatch.τ) (Cert.Dispatch.main (F := Bits))) ⟨m, fun _ => 0, g⟩ (fun r => (∀ c : Dev Cert.Dispatch.nD,
      r.2.mem ((c.tc : Thread Cert.Dispatch.nD Cert.Dispatch.τ).loc Cert.Dispatch.main_arg0) = m ((c.tc : Thread Cert.Dispatch.nD Cert.Dispatch.τ).loc Cert.Dispatch.main_arg0)
      ∧ r.2.mem ((c.tc : Thread Cert.Dispatch.nD Cert.Dispatch.τ).loc Cert.Dispatch.main_arg1) = m ((c.tc : Thread Cert.Dispatch.nD Cert.Dispatch.τ).loc Cert.Dispatch.main_arg1))
      ∧ r.2.sem = fun _ => 0)

def quiescent_DispatchReference [hDispatchReference : Cert.DispatchReference.Facts] : Prop :=
  ∀ (m : (ℓ : Loc Cert.DispatchReference.nD Cert.DispatchReference.τ Cert.DispatchReference.sig) → Buf (Elt Bits) ℓ) (g : Dev Cert.DispatchReference.nD → PrngReg), Pre_DispatchReference m →
    θ_run (Cert.DispatchReference.defs (F := Bits)) (onTc (τ := Cert.DispatchReference.τ) (Cert.DispatchReference.main (F := Bits))) ⟨m, fun _ => 0, g⟩ (fun r => (∀ c : Dev Cert.DispatchReference.nD,
      r.2.mem ((c.tc : Thread Cert.DispatchReference.nD Cert.DispatchReference.τ).loc Cert.DispatchReference.main_arg0) = m ((c.tc : Thread Cert.DispatchReference.nD Cert.DispatchReference.τ).loc Cert.DispatchReference.main_arg0)
      ∧ r.2.mem ((c.tc : Thread Cert.DispatchReference.nD Cert.DispatchReference.τ).loc Cert.DispatchReference.main_arg1) = m ((c.tc : Thread Cert.DispatchReference.nD Cert.DispatchReference.τ).loc Cert.DispatchReference.main_arg1))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_weights_ok_KernelIdeal [hKernelIdeal : Cert.KernelIdeal.Facts] [hPre_weights_ok_KernelIdeal : Cert.Pre_weights_ok_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_ok_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_weights_ok_ReferenceIdeal [hReferenceIdeal : Cert.ReferenceIdeal.Facts] [hPre_weights_ok_ReferenceIdeal : Cert.Pre_weights_ok_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_ok_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def bitexact_Dispatch_DispatchReference [hDispatch : Cert.Dispatch.Facts] [hDispatchReference : Cert.DispatchReference.Facts] : Prop :=
  ∀ (m : (ℓ : Loc Cert.Dispatch.nD Cert.Dispatch.τ Cert.Dispatch.sig) → Buf (Elt Bits) ℓ) (g : Dev Cert.Dispatch.nD → PrngReg)
    (m' : (ℓ : Loc Cert.DispatchReference.nD Cert.DispatchReference.τ Cert.DispatchReference.sig) → Buf (Elt Bits) ℓ) (g' : Dev Cert.DispatchReference.nD → PrngReg), Pre_Dispatch m →
    (∀ c : Dev Cert.Dispatch.nD,
      m ((c.tc : Thread Cert.Dispatch.nD Cert.Dispatch.τ).loc Cert.Dispatch.main_arg0) = Layout.blockN ⟨2, ![1024, 1024]⟩ ⟨2, ![2048, 1024]⟩ (Layout.meshBlock [2, 2, 2] ![[0], []] c) (m' (((0 : Dev Cert.DispatchReference.nD).tc : Thread Cert.DispatchReference.nD Cert.DispatchReference.τ).loc Cert.DispatchReference.main_arg0))
      ∧ m ((c.tc : Thread Cert.Dispatch.nD Cert.Dispatch.τ).loc Cert.Dispatch.main_arg1) = Layout.blockN ⟨2, ![1024, 8]⟩ ⟨2, ![1024, 16]⟩ (Layout.meshBlock [2, 2, 2] ![[], [0]] c) (m' (((0 : Dev Cert.DispatchReference.nD).tc : Thread Cert.DispatchReference.nD Cert.DispatchReference.τ).loc Cert.DispatchReference.main_arg1))) →
    ∃ (v0 : Buf (Elt Bits) (((0 : Dev Cert.DispatchReference.nD).tc : Thread Cert.DispatchReference.nD Cert.DispatchReference.τ).loc Cert.DispatchReference.main_arg0)) (v1 : Buf (Elt Bits) (((0 : Dev Cert.DispatchReference.nD).tc : Thread Cert.DispatchReference.nD Cert.DispatchReference.τ).loc Cert.DispatchReference.main_v2)),
      θ_run (Cert.Dispatch.defs (F := Bits)) (onTc (τ := Cert.Dispatch.τ) (Cert.Dispatch.main (F := Bits))) ⟨m, fun _ => 0, g⟩ (fun r => ∀ c : Dev Cert.Dispatch.nD,
          r.2.mem ((c.tc : Thread Cert.Dispatch.nD Cert.Dispatch.τ).loc Cert.Dispatch.main_v1_0) = v0
          ∧ r.2.mem ((c.tc : Thread Cert.Dispatch.nD Cert.Dispatch.τ).loc Cert.Dispatch.main_v1_1) = Layout.blockN ⟨2, ![1024, 8]⟩ ⟨2, ![1024, 16]⟩ (Layout.meshBlock [2, 2, 2] ![[], [0]] c) v1
          ∧ r.2.mem ((c.tc : Thread Cert.Dispatch.nD Cert.Dispatch.τ).loc Cert.Dispatch.main_arg0) = m ((c.tc : Thread Cert.Dispatch.nD Cert.Dispatch.τ).loc Cert.Dispatch.main_arg0)
          ∧ r.2.mem ((c.tc : Thread Cert.Dispatch.nD Cert.Dispatch.τ).loc Cert.Dispatch.main_arg1) = m ((c.tc : Thread Cert.Dispatch.nD Cert.Dispatch.τ).loc Cert.Dispatch.main_arg1))
      ∧ θ_run (Cert.DispatchReference.defs (F := Bits)) (onTc (τ := Cert.DispatchReference.τ) (Cert.DispatchReference.main (F := Bits))) ⟨m', fun _ => 0, g'⟩ (fun r =>
          r.2.mem (((0 : Dev Cert.DispatchReference.nD).tc : Thread Cert.DispatchReference.nD Cert.DispatchReference.τ).loc Cert.DispatchReference.main_arg0) = v0
          ∧ r.2.mem (((0 : Dev Cert.DispatchReference.nD).tc : Thread Cert.DispatchReference.nD Cert.DispatchReference.τ).loc Cert.DispatchReference.main_v2) = v1
          ∧ r.2.mem (((0 : Dev Cert.DispatchReference.nD).tc : Thread Cert.DispatchReference.nD Cert.DispatchReference.τ).loc Cert.DispatchReference.main_arg0) = m' (((0 : Dev Cert.DispatchReference.nD).tc : Thread Cert.DispatchReference.nD Cert.DispatchReference.τ).loc Cert.DispatchReference.main_arg0)
          ∧ r.2.mem (((0 : Dev Cert.DispatchReference.nD).tc : Thread Cert.DispatchReference.nD Cert.DispatchReference.τ).loc Cert.DispatchReference.main_arg1) = m' (((0 : Dev Cert.DispatchReference.nD).tc : Thread Cert.DispatchReference.nD Cert.DispatchReference.τ).loc Cert.DispatchReference.main_arg1))

def preserves_Kernel_KernelIdeal : Prop :=
  True

def algebraic_KernelIdeal_ReferenceIdeal_pre_weights_ok_KernelIdeal [hKernelIdeal : Cert.KernelIdeal.Facts] [hReferenceIdeal : Cert.ReferenceIdeal.Facts] [hPre_weights_ok_KernelIdeal : Cert.Pre_weights_ok_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_ok_KernelIdeal m →
    (∀ c : Dev Cert.KernelIdeal.nD,
      m ((c.tc : Thread Cert.KernelIdeal.nD Cert.KernelIdeal.τ).loc Cert.KernelIdeal.main_arg0) = Layout.blockN ⟨2, ![8, 304]⟩ ⟨2, ![16, 304]⟩ (Layout.meshBlock [2, 2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![8, 304]⟩ ⟨2, ![16, 304]⟩ (Layout.meshBlock [2, 2, 2] ![[0], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.blockN ⟨3, ![8, 1024, 4096]⟩ ⟨3, ![16, 1024, 4096]⟩ (Layout.meshBlock [2, 2, 2] ![[0], [], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.blockN ⟨3, ![8, 4096, 1024]⟩ ⟨3, ![16, 4096, 1024]⟩ (Layout.meshBlock [2, 2, 2] ![[0], [], []] c) (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = Layout.blockN ⟨2, ![1024, 1024]⟩ ⟨2, ![2048, 1024]⟩ (Layout.meshBlock [2, 2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hDispatch : Cert.Dispatch.Facts) (hDispatchReference : Cert.DispatchReference.Facts) (hKernel : Cert.Kernel.Facts) (hKernelIdeal : Cert.KernelIdeal.Facts) (hReferenceIdeal : Cert.ReferenceIdeal.Facts) (hPre_weights_ok_KernelIdeal : Cert.Pre_weights_ok_KernelIdeal.Facts) (hPre_weights_ok_ReferenceIdeal : Cert.Pre_weights_ok_ReferenceIdeal.Facts),
    quiescent_Dispatch (hDispatch := hDispatch)
    ∧ quiescent_DispatchReference (hDispatchReference := hDispatchReference)
    ∧ quiescent_Kernel (hKernel := hKernel)
    ∧ quiescent_KernelIdeal (hKernelIdeal := hKernelIdeal)
    ∧ quiescent_KernelIdeal_pre_weights_ok_KernelIdeal (hKernelIdeal := hKernelIdeal) (hPre_weights_ok_KernelIdeal := hPre_weights_ok_KernelIdeal)
    ∧ quiescent_ReferenceIdeal (hReferenceIdeal := hReferenceIdeal)
    ∧ quiescent_ReferenceIdeal_pre_weights_ok_ReferenceIdeal (hReferenceIdeal := hReferenceIdeal) (hPre_weights_ok_ReferenceIdeal := hPre_weights_ok_ReferenceIdeal)
    ∧ bitexact_Dispatch_DispatchReference (hDispatch := hDispatch) (hDispatchReference := hDispatchReference)
    ∧ preserves_Kernel_KernelIdeal
    ∧ algebraic_KernelIdeal_ReferenceIdeal_pre_weights_ok_KernelIdeal (hKernelIdeal := hKernelIdeal) (hReferenceIdeal := hReferenceIdeal) (hPre_weights_ok_KernelIdeal := hPre_weights_ok_KernelIdeal)
-- ==== Pre_weights_ok_KernelIdeal.lean ====
abbrev S8x304 : Shape := ⟨2, ![8, 304]⟩
abbrev S2048x1024 : Shape := ⟨2, ![2048, 1024]⟩
abbrev S8x1024x4096 : Shape := ⟨3, ![8, 1024, 4096]⟩
abbrev S8x4096x1024 : Shape := ⟨3, ![8, 4096, 1024]⟩
abbrev S_ : Shape := ⟨0, ![]⟩

class Facts : Prop where
  bcast_S_S8x304 : S_.BroadcastsInDim S8x304 (![] : Fin 0 → Fin S8x304.rank)
  reducesTo_S8x304_S_d0_1 : S8x304.ReducesTo [0, 1] S_
  h_S_ : 0 < S_.numel

variable [Facts]

def fn {F : FTy → Type} [FloatOps F] (main_arg0 : IVec S8x304 32) (main_arg1 : FVec F S8x304 .f32) (main_arg2 : FVec F S2048x1024 .f32) (main_arg3 : FVec F S8x1024x4096 .f32) (main_arg4 : FVec F S8x4096x1024 .f32) : IVec S_ 1 :=
  let main_cst : FVec F S_ .f32 := constant S_ .f32 0x00000000#32
  let main_v0 : FVec F S8x304 .f32 := broadcastInDim S8x304 ![] bcast_S_S8x304 main_cst
  let main_v1 : IVec S8x304 1 := cmpf .oge main_arg1 main_v0
  let main_cst_0 : FVec F S_ .f32 := constant S_ .f32 0x7F800000#32
  let main_v2 : FVec F S8x304 .f32 := broadcastInDim S8x304 ![] bcast_S_S8x304 main_cst_0
  let main_v3 : IVec S8x304 1 := cmpf .olt main_arg1 main_v2
  let main_v4 : IVec S8x304 1 := andi main_v1 main_v3
  let main_c : IVec S_ 1 := constantI S_ 1 1#1
  let main_v5 : IVec S_ 1 := (fun x v => Host.reduce IntOp.andi x v reducesTo_S8x304_S_d0_1 h_S_) main_v4 main_c
  main_v5
-- ==== Pre_weights_ok_ReferenceIdeal.lean ====
abbrev S16x304 : Shape := ⟨2, ![16, 304]⟩
abbrev S2048x1024 : Shape := ⟨2, ![2048, 1024]⟩
abbrev S16x1024x4096 : Shape := ⟨3, ![16, 1024, 4096]⟩
abbrev S16x4096x1024 : Shape := ⟨3, ![16, 4096, 1024]⟩
abbrev S_ : Shape := ⟨0, ![]⟩

class Facts : Prop where
  bcast_S_S16x304 : S_.BroadcastsInDim S16x304 (![] : Fin 0 → Fin S16x304.rank)
  reducesTo_S16x304_S_d0_1 : S16x304.ReducesTo [0, 1] S_
  h_S_ : 0 < S_.numel

variable [Facts]

def fn {F : FTy → Type} [FloatOps F] (main_arg0 : IVec S16x304 32) (main_arg1 : FVec F S16x304 .f32) (main_arg2 : FVec F S2048x1024 .f32) (main_arg3 : FVec F S16x1024x4096 .f32) (main_arg4 : FVec F S16x4096x1024 .f32) : IVec S_ 1 :=
  let main_cst : FVec F S_ .f32 := constant S_ .f32 0x00000000#32
  let main_v0 : FVec F S16x304 .f32 := broadcastInDim S16x304 ![] bcast_S_S16x304 main_cst
  let main_v1 : IVec S16x304 1 := cmpf .oge main_arg1 main_v0
  let main_cst_0 : FVec F S_ .f32 := constant S_ .f32 0x7F800000#32
  let main_v2 : FVec F S16x304 .f32 := broadcastInDim S16x304 ![] bcast_S_S16x304 main_cst_0
  let main_v3 : IVec S16x304 1 := cmpf .olt main_arg1 main_v2
  let main_v4 : IVec S16x304 1 := andi main_v1 main_v3
  let main_c : IVec S_ 1 := constantI S_ 1 1#1
  let main_v5 : IVec S_ 1 := (fun x v => Host.reduce IntOp.andi x v reducesTo_S16x304_S_d0_1 h_S_) main_v4 main_c
  main_v5
-- ==== Dispatch.lean ====
abbrev S1024x1024 : Shape := ⟨2, ![1024, 1024]⟩
abbrev S1024x8 : Shape := ⟨2, ![1024, 8]⟩
abbrev S2048x1024 : Shape := ⟨2, ![2048, 1024]⟩
abbrev S2 : Shape := ⟨1, ![2]⟩
abbrev S_ : Shape := ⟨0, ![]⟩
abbrev S1 : Shape := ⟨1, ![1]⟩

abbrev nBuf : Space → Nat
  | .hbm => 4
  | .vmem => 4
  | .smem => 0
  | _ => 0

abbrev bufTy : (tb : Table) → Fin (tcTables nBuf tb) → BufTy
  | .hbm, ⟨0, _⟩ => ⟨S1024x1024, .f32⟩
  | .hbm, ⟨1, _⟩ => ⟨S1024x8, .f32⟩
  | .hbm, ⟨2, _⟩ => ⟨S2048x1024, .f32⟩
  | .hbm, ⟨3, _⟩ => ⟨S1024x8, .f32⟩
  | .local _ .vmem, ⟨0, _⟩ => ⟨S1024x1024, .f32⟩
  | .local _ .vmem, ⟨1, _⟩ => ⟨S1024x8, .f32⟩
  | .local _ .vmem, ⟨2, _⟩ => ⟨S2048x1024, .f32⟩
  | .local _ .vmem, ⟨3, _⟩ => ⟨S1024x8, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_5 : BitVec 32 := 1#32
  let v3 : BitVec 32 := Dev.word d0
  let c4_i32_1 : BitVec 32 := 4#32
  let v4 : BitVec 32 := Scalar.divsi v3 c4_i32_1
  let c2_i32_0 : BitVec 32 := 2#32
  let v5 : BitVec 32 := Scalar.remsi v4 c2_i32_0
  let v12 : BitVec 32 := Scalar.subi c1_i32_5 v5
  let c4_i32_7 : BitVec 32 := 4#32
  let v14 : BitVec 32 := Scalar.muli v12 c4_i32_7
  let v15 : BitVec 32 := Scalar.addi c0_i32 v14
  let v6 : BitVec 32 := Dev.word d0
  let c2_i32_3 : BitVec 32 := 2#32
  let v7 : BitVec 32 := Scalar.divsi v6 c2_i32_3
  let c2_i32_2 : BitVec 32 := 2#32
  let v8 : BitVec 32 := Scalar.remsi v7 c2_i32_2
  let c2_i32_8 : BitVec 32 := 2#32
  let v16 : BitVec 32 := Scalar.muli v8 c2_i32_8
  let v17 : BitVec 32 := Scalar.addi v15 v16
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let c1_i32_9 : BitVec 32 := 1#32
  let v18 : BitVec 32 := Scalar.muli v11 c1_i32_9
  let v19 : BitVec 32 := Scalar.addi v17 v18
  v19.toNat
def k0_off1 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v20 : BitVec 32 := Scalar.muli v2 c1024_i32
  let c0_i32_17 : BitVec 32 := 0#32
  ![v20.toNat, 0]
def k0_dev2 (d0 : Dev nD) : Nat :=
  let c0_i32_14 : BitVec 32 := 0#32
  let c1_i32_5 : BitVec 32 := 1#32
  let v3 : BitVec 32 := Dev.word d0
  let c4_i32_1 : BitVec 32 := 4#32
  let v4 : BitVec 32 := Scalar.divsi v3 c4_i32_1
  let c2_i32_0 : BitVec 32 := 2#32
  let v5 : BitVec 32 := Scalar.remsi v4 c2_i32_0
  let v12 : BitVec 32 := Scalar.subi c1_i32_5 v5
  let c4_i32_13 : BitVec 32 := 4#32
  let v21 : BitVec 32 := Scalar.muli v12 c4_i32_13
  let v22 : BitVec 32 := Scalar.addi c0_i32_14 v21
  let v6 : BitVec 32 := Dev.word d0
  let c2_i32_3 : BitVec 32 := 2#32
  let v7 : BitVec 32 := Scalar.divsi v6 c2_i32_3
  let c2_i32_2 : BitVec 32 := 2#32
  let v8 : BitVec 32 := Scalar.remsi v7 c2_i32_2
  let c2_i32_15 : BitVec 32 := 2#32
  let v23 : BitVec 32 := Scalar.muli v8 c2_i32_15
  let v24 : BitVec 32 := Scalar.addi v22 v23
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let c1_i32_16 : BitVec 32 := 1#32
  let v25 : BitVec 32 := Scalar.muli v11 c1_i32_16
  let v26 : BitVec 32 := Scalar.addi v24 v25
  v26.toNat
def k0_dev3 (d0 : Dev nD) : Nat :=
  let c0_i32_21 : BitVec 32 := 0#32
  let c1_i32_5 : BitVec 32 := 1#32
  let v3 : BitVec 32 := Dev.word d0
  let c4_i32_1 : BitVec 32 := 4#32
  let v4 : BitVec 32 := Scalar.divsi v3 c4_i32_1
  let c2_i32_0 : BitVec 32 := 2#32
  let v5 : BitVec 32 := Scalar.remsi v4 c2_i32_0
  let v12 : BitVec 32 := Scalar.subi c1_i32_5 v5
  let c4_i32_20 : BitVec 32 := 4#32
  let v32 : BitVec 32 := Scalar.muli v12 c4_i32_20
  let v33 : BitVec 32 := Scalar.addi c0_i32_21 v32
  let v6 : BitVec 32 := Dev.word d0
  let c2_i32_3 : BitVec 32 := 2#32
  let v7 : BitVec 32 := Scalar.divsi v6 c2_i32_3
  let c2_i32_2 : BitVec 32 := 2#32
  let v8 : BitVec 32 := Scalar.remsi v7 c2_i32_2
  let c2_i32_22 : BitVec 32 := 2#32
  let v34 : BitVec 32 := Scalar.muli v8 c2_i32_22
  let v35 : BitVec 32 := Scalar.addi v33 v34
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let c1_i32_23 : BitVec 32 := 1#32
  let v36 : BitVec 32 := Scalar.muli v11 c1_i32_23
  let v37 : BitVec 32 := Scalar.addi v35 v36
  v37.toNat
def k0_off2 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32_25 : BitVec 32 := 1024#32
  let v44 : BitVec 32 := Scalar.muli v2 c1024_i32_25
  let v45 : Index := Scalar.indexCast v44
  let c0_26 : Index := 0#32
  ![v45.toNat, 0]
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== DispatchReference.lean ====
abbrev S2048x1024 : Shape := ⟨2, ![2048, 1024]⟩
abbrev S1024x16 : Shape := ⟨2, ![1024, 16]⟩
abbrev S1024x8 : Shape := ⟨2, ![1024, 8]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x16, .f32⟩
  | .hbm, ⟨2, _⟩ => ⟨S1024x8, .f32⟩
  | .hbm, ⟨3, _⟩ => ⟨S1024x8, .f32⟩
  | .hbm, ⟨4, _⟩ => ⟨S1024x16, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel.lean ====
abbrev S8x304 : Shape := ⟨2, ![8, 304]⟩
abbrev S2048x1024 : Shape := ⟨2, ![2048, 1024]⟩
abbrev S8x1024x4096 : Shape := ⟨3, ![8, 1024, 4096]⟩
abbrev S8x4096x1024 : Shape := ⟨3, ![8, 4096, 1024]⟩
abbrev S8x304x1 : Shape := ⟨3, ![8, 304, 1]⟩
abbrev S8x1x304 : Shape := ⟨3, ![8, 1, 304]⟩
abbrev S1024x1024 : Shape := ⟨2, ![1024, 1024]⟩
abbrev S1x304x1 : Shape := ⟨3, ![1, 304, 1]⟩
abbrev S1x1x304 : Shape := ⟨3, ![1, 1, 304]⟩
abbrev S1x1024x1024 : Shape := ⟨3, ![1, 1024, 1024]⟩
abbrev S2x304x1024 : Shape := ⟨3, ![2, 304, 1024]⟩
abbrev S_ : Shape := ⟨0, ![]⟩
abbrev S304x2048 : Shape := ⟨2, ![304, 2048]⟩
abbrev S304x1 : Shape := ⟨2, ![304, 1]⟩
abbrev S304x1024 : Shape := ⟨2, ![304, 1024]⟩
abbrev S1x304x1024 : Shape := ⟨3, ![1, 304, 1024]⟩
abbrev S2048x304 : Shape := ⟨2, ![2048, 304]⟩
abbrev S1x304 : Shape := ⟨2, ![1, 304]⟩

abbrev nBuf : Space → Nat
  | .hbm => 9
  | .vmem => 16
  | .smem => 0
  | _ => 0

abbrev bufTy : (tb : Table) → Fin (tcTables nBuf tb) → BufTy
  | .hbm, ⟨0, _⟩ => ⟨S8x304, .i32⟩
  | .hbm, ⟨1, _⟩ => ⟨S8x304, .f32⟩
  | .hbm, ⟨2, _⟩ => ⟨S2048x1024, .f32⟩
  | .hbm, ⟨3, _⟩ => ⟨S8x1024x4096, .f32⟩
  | .hbm, ⟨4, _⟩ => ⟨S8x4096x1024, .f32⟩
  | .hbm, ⟨5, _⟩ => ⟨S8x304x1, .i32⟩
  | .hbm, ⟨6, _⟩ => ⟨S8x1x304, .i32⟩
  | .hbm, ⟨7, _⟩ => ⟨S8x304x1, .f32⟩
  | .hbm, ⟨8, _⟩ => ⟨S1024x1024, .f32⟩
  | .local _ .vmem, ⟨0, _⟩ => ⟨S1x304x1, .i32⟩
  | .local _ .vmem, ⟨1, _⟩ => ⟨S1x304x1, .i32⟩
  | .local _ .vmem, ⟨2, _⟩ => ⟨S1x1x304, .i32⟩
  | .local _ .vmem, ⟨3, _⟩ => ⟨S1x1x304, .i32⟩
  | .local _ .vmem, ⟨4, _⟩ => ⟨S1x304x1, .f32⟩
  | .local _ .vmem, ⟨5, _⟩ => ⟨S1x304x1, .f32⟩
  | .local _ .vmem, ⟨6, _⟩ => ⟨S2048x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1024x1024, .f32⟩
  | .local _ .vmem, ⟨12, _⟩ => ⟨S2x304x1024, .f32⟩
  | .local _ .vmem, ⟨13, _⟩ => ⟨S2x304x1024, .f32⟩
  | .local _ .vmem, ⟨14, _⟩ => ⟨S2048x1024, .f32⟩
  | .local _ .vmem, ⟨15, _⟩ => ⟨S1024x1024, .f32⟩
  | _, _ => ⟨S8x304, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(1, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev barrier1 : Sem sig := 0

abbrev nD : Nat := 8
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c0_i32 : BitVec 32 := 0#32
  let v13 : BitVec 1 := Scalar.cmpi .eq arg0 c0_i32
  let arg1 : BitVec 32 := BitVec.ofNat 32 (i 1).val
  let c0_i32_6 : BitVec 32 := 0#32
  let v14 : BitVec 1 := Scalar.cmpi .eq arg1 c0_i32_6
  let v15 : BitVec 1 := Scalar.andi v13 v14
  let v16 : BitVec 32 := Scalar.extui v15
  let c0_i32_7 : BitVec 32 := 0#32
  let v17 : BitVec 1 := Scalar.cmpi .ne v16 c0_i32_7
  v17

def k0_dev1 (d0 : Dev nD) : Nat :=
  let c0_i32_36 : BitVec 32 := 0#32
  let c1_i32_5 : BitVec 32 := 1#32
  let v3 : BitVec 32 := Dev.word d0
  let c4_i32_1 : BitVec 32 := 4#32
  let v4 : BitVec 32 := Scalar.divsi v3 c4_i32_1
  let c2_i32_0 : BitVec 32 := 2#32
  let v5 : BitVec 32 := Scalar.remsi v4 c2_i32_0
  let v12 : BitVec 32 := Scalar.subi c1_i32_5 v5
  let c4_i32_35 : BitVec 32 := 4#32
  let v61 : BitVec 32 := Scalar.muli v12 c4_i32_35
  let v62 : BitVec 32 := Scalar.addi c0_i32_36 v61
  let v6 : BitVec 32 := Dev.word d0
  let c2_i32_3 : BitVec 32 := 2#32
  let v7 : BitVec 32 := Scalar.divsi v6 c2_i32_3
  let c2_i32_2 : BitVec 32 := 2#32
  let v8 : BitVec 32 := Scalar.remsi v7 c2_i32_2
  let c2_i32_37 : BitVec 32 := 2#32
  let v63 : BitVec 32 := Scalar.muli v8 c2_i32_37
  let v64 : BitVec 32 := Scalar.addi v62 v63
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let c1_i32_38 : BitVec 32 := 1#32
  let v65 : BitVec 32 := Scalar.muli v11 c1_i32_38
  let v66 : BitVec 32 := Scalar.addi v64 v65
  v66.toNat
def k0_cond2 (i : grid0.Coords) : BitVec 1 :=
  let arg0 : BitVec 32 := BitVec.ofNat 32 (i 0).val
  let c0_i32_8 : BitVec 32 := 0#32
  let v18 : BitVec 1 := Scalar.cmpi .sgt arg0 c0_i32_8
  let arg1 : BitVec 32 := BitVec.ofNat 32 (i 1).val
  let c0_i32_9 : BitVec 32 := 0#32
  let v19 : BitVec 1 := Scalar.cmpi .eq arg1 c0_i32_9
  let v20 : BitVec 1 := Scalar.andi v18 v19
  let v21 : BitVec 32 := Scalar.extui v20
  let c0_i32_10 : BitVec 32 := 0#32
  let v22 : BitVec 1 := Scalar.cmpi .ne v21 c0_i32_10
  v22

def k0_off1 (i : grid0.Coords) : Fin 3 → Nat :=
  let arg0 : BitVec 32 := BitVec.ofNat 32 (i 0).val
  let c1_i32_34 : BitVec 32 := 1#32
  let v60 : BitVec 32 := Scalar.subi arg0 c1_i32_34
  let c2_i32_35 : BitVec 32 := 2#32
  let c0_i32_36 : BitVec 32 := 0#32
  let v61 : BitVec 1 := Scalar.cmpi .eq c2_i32_35 c0_i32_36
  let c1_i32_37 : BitVec 32 := 1#32
  let v62 : BitVec 32 := Scalar.select v61 c1_i32_37 c2_i32_35
  let v63 : BitVec 32 := Scalar.remsi v60 v62
  let c0_i32_39 : BitVec 32 := 0#32
  let v65 : BitVec 1 := Scalar.cmpi .slt v63 c0_i32_39
  let c0_i32_40 : BitVec 32 := 0#32
  let v66 : BitVec 1 := Scalar.cmpi .slt v62 c0_i32_40
  let v67 : BitVec 1 := Scalar.xori v65 v66
  let c0_i32_38 : BitVec 32 := 0#32
  let v64 : BitVec 1 := Scalar.cmpi .ne v63 c0_i32_38
  let v68 : BitVec 1 := Scalar.andi v67 v64
  let v69 : BitVec 32 := Scalar.addi v63 v62
  let v70 : BitVec 32 := Scalar.select v68 v69 v63
  let v79 : Index := Scalar.indexCast v70
  let c0_46 : Index := 0#32
  let c0_47 : Index := 0#32
  ![v79.toNat, 0, 0]
def k0_cond3 (i : grid0.Coords) : BitVec 1 :=
  let arg0 : BitVec 32 := BitVec.ofNat 32 (i 0).val
  let c7_i32 : BitVec 32 := 7#32
  let v23 : BitVec 1 := Scalar.cmpi .slt arg0 c7_i32
  let arg1 : BitVec 32 := BitVec.ofNat 32 (i 1).val
  let c1_i32_11 : BitVec 32 := 1#32
  let v24 : BitVec 1 := Scalar.cmpi .eq arg1 c1_i32_11
  let v25 : BitVec 1 := Scalar.andi v23 v24
  let v26 : BitVec 32 := Scalar.extui v25
  let c0_i32_12 : BitVec 32 := 0#32
  let v27 : BitVec 1 := Scalar.cmpi .ne v26 c0_i32_12
  v27

def k0_off2 (i : grid0.Coords) : Fin 3 → Nat :=
  let arg0 : BitVec 32 := BitVec.ofNat 32 (i 0).val
  let c1_i32_34 : BitVec 32 := 1#32
  let v60 : BitVec 32 := Scalar.addi arg0 c1_i32_34
  let c2_i32_35 : BitVec 32 := 2#32
  let c0_i32_36 : BitVec 32 := 0#32
  let v61 : BitVec 1 := Scalar.cmpi .eq c2_i32_35 c0_i32_36
  let c1_i32_37 : BitVec 32 := 1#32
  let v62 : BitVec 32 := Scalar.select v61 c1_i32_37 c2_i32_35
  let v63 : BitVec 32 := Scalar.remsi v60 v62
  let c0_i32_39 : BitVec 32 := 0#32
  let v65 : BitVec 1 := Scalar.cmpi .slt v63 c0_i32_39
  let c0_i32_40 : BitVec 32 := 0#32
  let v66 : BitVec 1 := Scalar.cmpi .slt v62 c0_i32_40
  let v67 : BitVec 1 := Scalar.xori v65 v66
  let c0_i32_38 : BitVec 32 := 0#32
  let v64 : BitVec 1 := Scalar.cmpi .ne v63 c0_i32_38
  let v68 : BitVec 1 := Scalar.andi v67 v64
  let v69 : BitVec 32 := Scalar.addi v63 v62
  let v70 : BitVec 32 := Scalar.select v68 v69 v63
  let v85 : Index := Scalar.indexCast v70
  let c0_51 : Index := 0#32
  let c0_52 : Index := 0#32
  ![v85.toNat, 0, 0]
def k0_off3 (i : grid0.Coords) : Fin 3 → Nat :=
  let arg0 : BitVec 32 := BitVec.ofNat 32 (i 0).val
  let c2_i32_13 : BitVec 32 := 2#32
  let c0_i32_14 : BitVec 32 := 0#32
  let v28 : BitVec 1 := Scalar.cmpi .eq c2_i32_13 c0_i32_14
  let c1_i32_15 : BitVec 32 := 1#32
  let v29 : BitVec 32 := Scalar.select v28 c1_i32_15 c2_i32_13
  let v30 : BitVec 32 := Scalar.remsi arg0 v29
  let c0_i32_17 : BitVec 32 := 0#32
  let v32 : BitVec 1 := Scalar.cmpi .slt v30 c0_i32_17
  let c0_i32_18 : BitVec 32 := 0#32
  let v33 : BitVec 1 := Scalar.cmpi .slt v29 c0_i32_18
  let v34 : BitVec 1 := Scalar.xori v32 v33
  let c0_i32_16 : BitVec 32 := 0#32
  let v31 : BitVec 1 := Scalar.cmpi .ne v30 c0_i32_16
  let v35 : BitVec 1 := Scalar.andi v34 v31
  let v36 : BitVec 32 := Scalar.addi v30 v29
  let v37 : BitVec 32 := Scalar.select v35 v36 v30
  let v38 : Index := Scalar.indexCast v37
  let c0 : Index := 0#32
  let c0_19 : Index := 0#32
  ![v38.toNat, 0, 0]
def k0_cond4 (i : grid0.Coords) : BitVec 1 :=
  let arg1 : BitVec 32 := BitVec.ofNat 32 (i 1).val
  let c0_i32_28 : BitVec 32 := 0#32
  let v49 : BitVec 1 := Scalar.cmpi .eq arg1 c0_i32_28
  let v50 : BitVec 32 := Scalar.extui v49
  let c0_i32_29 : BitVec 32 := 0#32
  let v51 : BitVec 1 := Scalar.cmpi .ne v50 c0_i32_29
  v51

def k0_off4 (i : grid0.Coords) : Fin 3 → Nat :=
  let arg0 : BitVec 32 := BitVec.ofNat 32 (i 0).val
  let c2_i32_34 : BitVec 32 := 2#32
  let c0_i32_35 : BitVec 32 := 0#32
  let v60 : BitVec 1 := Scalar.cmpi .eq c2_i32_34 c0_i32_35
  let c1_i32_36 : BitVec 32 := 1#32
  let v61 : BitVec 32 := Scalar.select v60 c1_i32_36 c2_i32_34
  let v62 : BitVec 32 := Scalar.remsi arg0 v61
  let c0_i32_38 : BitVec 32 := 0#32
  let v64 : BitVec 1 := Scalar.cmpi .slt v62 c0_i32_38
  let c0_i32_39 : BitVec 32 := 0#32
  let v65 : BitVec 1 := Scalar.cmpi .slt v61 c0_i32_39
  let v66 : BitVec 1 := Scalar.xori v64 v65
  let c0_i32_37 : BitVec 32 := 0#32
  let v63 : BitVec 1 := Scalar.cmpi .ne v62 c0_i32_37
  let v67 : BitVec 1 := Scalar.andi v66 v63
  let v68 : BitVec 32 := Scalar.addi v62 v61
  let v69 : BitVec 32 := Scalar.select v67 v68 v62
  let v70 : Index := Scalar.indexCast v69
  let c0_40 : Index := 0#32
  let c0_41 : Index := 0#32
  ![v70.toNat, 0, 0]
def k0_cond5 (i : grid0.Coords) : BitVec 1 :=
  let arg1 : BitVec 32 := BitVec.ofNat 32 (i 1).val
  let c0_i32_30 : BitVec 32 := 0#32
  let v52 : BitVec 1 := Scalar.cmpi .ne arg1 c0_i32_30
  let v53 : BitVec 32 := Scalar.extui v52
  let c0_i32_31 : BitVec 32 := 0#32
  let v54 : BitVec 1 := Scalar.cmpi .ne v53 c0_i32_31
  v54

def k0_off5 (i : grid0.Coords) : Fin 3 → Nat :=
  let arg0 : BitVec 32 := BitVec.ofNat 32 (i 0).val
  let c2_i32_34 : BitVec 32 := 2#32
  let c0_i32_35 : BitVec 32 := 0#32
  let v60 : BitVec 1 := Scalar.cmpi .eq c2_i32_34 c0_i32_35
  let c1_i32_36 : BitVec 32 := 1#32
  let v61 : BitVec 32 := Scalar.select v60 c1_i32_36 c2_i32_34
  let v62 : BitVec 32 := Scalar.remsi arg0 v61
  let c0_i32_38 : BitVec 32 := 0#32
  let v64 : BitVec 1 := Scalar.cmpi .slt v62 c0_i32_38
  let c0_i32_39 : BitVec 32 := 0#32
  let v65 : BitVec 1 := Scalar.cmpi .slt v61 c0_i32_39
  let v66 : BitVec 1 := Scalar.xori v64 v65
  let c0_i32_37 : BitVec 32 := 0#32
  let v63 : BitVec 1 := Scalar.cmpi .ne v62 c0_i32_37
  let v67 : BitVec 1 := Scalar.andi v66 v63
  let v68 : BitVec 32 := Scalar.addi v62 v61
  let v69 : BitVec 32 := Scalar.select v67 v68 v62
  let v70 : Index := Scalar.indexCast v69
  let c0_40 : Index := 0#32
  let c0_41 : Index := 0#32
  ![v70.toNat, 0, 0]
def k0_cond6 (i : grid0.Coords) : BitVec 1 :=
  let arg0 : BitVec 32 := BitVec.ofNat 32 (i 0).val
  let c7_i32_32 : BitVec 32 := 7#32
  let v55 : BitVec 1 := Scalar.cmpi .eq arg0 c7_i32_32
  let arg1 : BitVec 32 := BitVec.ofNat 32 (i 1).val
  let c3_i32 : BitVec 32 := 3#32
  let v56 : BitVec 1 := Scalar.cmpi .eq arg1 c3_i32
  let v57 : BitVec 1 := Scalar.andi v55 v56
  let v58 : BitVec 32 := Scalar.extui v57
  let c0_i32_33 : BitVec 32 := 0#32
  let v59 : BitVec 1 := Scalar.cmpi .ne v58 c0_i32_33
  v59

def k0_off6 (d0 : Dev nD) : Fin 2 → Nat :=
  let c1_i32_44 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v75 : BitVec 32 := Scalar.subi c1_i32_44 v2
  let c1024_i32 : BitVec 32 := 1024#32
  let v76 : BitVec 32 := Scalar.muli v75 c1024_i32
  let c0_i32_49 : BitVec 32 := 0#32
  ![v76.toNat, 0]
def k0_dev2 (d0 : Dev nD) : Nat :=
  let c0_i32_46 : BitVec 32 := 0#32
  let c1_i32_5 : BitVec 32 := 1#32
  let v3 : BitVec 32 := Dev.word d0
  let c4_i32_1 : BitVec 32 := 4#32
  let v4 : BitVec 32 := Scalar.divsi v3 c4_i32_1
  let c2_i32_0 : BitVec 32 := 2#32
  let v5 : BitVec 32 := Scalar.remsi v4 c2_i32_0
  let v12 : BitVec 32 := Scalar.subi c1_i32_5 v5
  let c4_i32_45 : BitVec 32 := 4#32
  let v77 : BitVec 32 := Scalar.muli v12 c4_i32_45
  let v78 : BitVec 32 := Scalar.addi c0_i32_46 v77
  let v6 : BitVec 32 := Dev.word d0
  let c2_i32_3 : BitVec 32 := 2#32
  let v7 : BitVec 32 := Scalar.divsi v6 c2_i32_3
  let c2_i32_2 : BitVec 32 := 2#32
  let v8 : BitVec 32 := Scalar.remsi v7 c2_i32_2
  let c2_i32_47 : BitVec 32 := 2#32
  let v79 : BitVec 32 := Scalar.muli v8 c2_i32_47
  let v80 : BitVec 32 := Scalar.addi v78 v79
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let c1_i32_48 : BitVec 32 := 1#32
  let v81 : BitVec 32 := Scalar.muli v11 c1_i32_48
  let v82 : BitVec 32 := Scalar.addi v80 v81
  v82.toNat
def k0_off7 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32_57 : BitVec 32 := 1024#32
  let v92 : BitVec 32 := Scalar.muli v2 c1024_i32_57
  let v93 : Index := Scalar.indexCast v92
  let c0_58 : Index := 0#32
  ![v93.toNat, 0]
def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let c1_i32_0 : BitVec 32 := 1#32
  let v1 : BitVec 32 := Scalar.addi arg0 c1_i32_0
  let c7_i32 : BitVec 32 := 7#32
  let v2 : BitVec 32 := Scalar.minsi v1 c7_i32
  let v3 : BitVec 32 := Scalar.select v0 v2 arg0
  let c0_i32 : BitVec 32 := 0#32
  let c0_i32_1 : BitVec 32 := 0#32
  let c0_i32_2 : BitVec 32 := 0#32
  ![v3.toNat, c0_i32.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c1_i32 : BitVec 32 := 1#32
  let v1 : BitVec 32 := Scalar.subi arg0 c1_i32
  let c0_i32_0 : BitVec 32 := 0#32
  let v2 : BitVec 32 := Scalar.maxsi v1 c0_i32_0
  let v3 : BitVec 32 := Scalar.select v0 v2 arg0
  let c0_i32_1 : BitVec 32 := 0#32
  let c0_i32_2 : BitVec 32 := 0#32
  let c0_i32_3 : BitVec 32 := 0#32
  ![v3.toNat, c0_i32_1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let c1_i32_0 : BitVec 32 := 1#32
  let v1 : BitVec 32 := Scalar.addi arg0 c1_i32_0
  let c7_i32 : BitVec 32 := 7#32
  let v2 : BitVec 32 := Scalar.minsi v1 c7_i32
  let v3 : BitVec 32 := Scalar.select v0 v2 arg0
  let c0_i32 : BitVec 32 := 0#32
  let c0_i32_1 : BitVec 32 := 0#32
  let c0_i32_2 : BitVec 32 := 0#32
  ![v3.toNat, c0_i32.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x304x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x304 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x304x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferenceIdeal.lean ====
abbrev S16x304 : Shape := ⟨2, ![16, 304]⟩
abbrev S2048x1024 : Shape := ⟨2, ![2048, 1024]⟩
abbrev S16x1024x4096 : Shape := ⟨3, ![16, 1024, 4096]⟩
abbrev S16x4096x1024 : Shape := ⟨3, ![16, 4096, 1024]⟩
abbrev S2048 : Shape := ⟨1, ![2048]⟩
abbrev S16x304x1 : Shape := ⟨3, ![16, 304, 1]⟩
abbrev S1x1x2048 : Shape := ⟨3, ![1, 1, 2048]⟩
abbrev S16x304x2048 : Shape := ⟨3, ![16, 304, 2048]⟩
abbrev S_ : Shape := ⟨0, ![]⟩
abbrev S16x2048 : Shape := ⟨2, ![16, 2048]⟩
abbrev S16x4096x2048 : Shape := ⟨3, ![16, 4096, 2048]⟩
abbrev S16x2048x4096 : Shape := ⟨3, ![16, 2048, 4096]⟩
abbrev S16x2048x1024 : Shape := ⟨3, ![16, 2048, 1024]⟩
abbrev S16x2048x1 : Shape := ⟨3, ![16, 2048, 1]⟩

abbrev nBuf : Space → Nat
  | .hbm => 30
  | .vmem => 0
  | .smem => 0
  | _ => 0

abbrev bufTy : (tb : Table) → Fin (tcTables nBuf tb) → BufTy
  | .hbm, ⟨0, _⟩ => ⟨S16x304, .i32⟩
  | .hbm, ⟨1, _⟩ => ⟨S16x304, .f32⟩
  | .hbm, ⟨2, _⟩ => ⟨S2048x1024, .f32⟩
  | .hbm, ⟨3, _⟩ => ⟨S16x1024x4096, .f32⟩
  | .hbm, ⟨4, _⟩ => ⟨S16x4096x1024, .f32⟩
  | .hbm, ⟨5, _⟩ => ⟨S2048, .i32⟩
  | .hbm, ⟨6, _⟩ => ⟨S16x304x1, .i32⟩
  | .hbm, ⟨7, _⟩ => ⟨S1x1x2048, .i32⟩
  | .hbm, ⟨8, _⟩ => ⟨S16x304x2048, .i32⟩
  | .hbm, ⟨9, _⟩ => ⟨S16x304x2048, .i32⟩
  | .hbm, ⟨10, _⟩ => ⟨S16x304x2048, .i1⟩
  | .hbm, ⟨11, _⟩ => ⟨S16x304x1, .f32⟩
  | .hbm, ⟨12, _⟩ => ⟨S_, .f32⟩
  | .hbm, ⟨13, _⟩ => ⟨S_, .f32⟩
  | .hbm, ⟨14, _⟩ => ⟨S16x304x2048, .f32⟩
  | .hbm, ⟨15, _⟩ => ⟨S16x304x2048, .f32⟩
  | .hbm, ⟨16, _⟩ => ⟨S16x304x2048, .f32⟩
  | .hbm, ⟨17, _⟩ => ⟨S_, .f32⟩
  | .hbm, ⟨18, _⟩ => ⟨S16x2048, .f32⟩
  | .hbm, ⟨19, _⟩ => ⟨S16x4096x2048, .f32⟩
  | .hbm, ⟨20, _⟩ => ⟨S16x2048x4096, .f32⟩
  | .hbm, ⟨21, _⟩ => ⟨S_, .f32⟩
  | .hbm, ⟨22, _⟩ => ⟨S16x2048x4096, .f32⟩
  | .hbm, ⟨23, _⟩ => ⟨S16x2048x4096, .f32⟩
  | .hbm, ⟨24, _⟩ => ⟨S16x2048x1024, .f32⟩
  | .hbm, ⟨25, _⟩ => ⟨S16x2048x1, .f32⟩
  | .hbm, ⟨26, _⟩ => ⟨S16x2048x1024, .f32⟩
  | .hbm, ⟨27, _⟩ => ⟨S16x2048x1024, .f32⟩
  | .hbm, ⟨28, _⟩ => ⟨S_, .f32⟩
  | .hbm, ⟨29, _⟩ => ⟨S2048x1024, .f32⟩
  | _, _ => ⟨S16x304, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩

abbrev nD : Nat := 1
abbrev τ : Topo := Topo.v7x

variable {F : FTy → Type} [FloatOps F]
-- ==== Proof.DispatchProtocol.lean ====
/- The exchange of token rows and router columns between the two halves of the x axis: the devices, the
   semaphores, what each semaphore's round hands over, what each device owes when the kernel starts, and the
   contents the pipeline's proof data names.

   Device `c` and its partner `peer c` differ in the x coordinate alone. Each tells the other, on the barrier
   semaphore, that its two result buffers may be written; each then copies its token rows into its partner's
   gathered buffer, at the rows its own x coordinate names, and its router columns into its partner's buffer. -/
module

public import proofs.«01_k».proof.Proof.Gen.Dispatch
public import proofs.«01_k».proof.Proof.Gen.Dispatch.Skeleton
public import proofs.«01_k».proof.Proof.Gen.Dispatch.Launch
public import proofs.«01_k».proof.Proof.Gen.Dispatch.Points
public import Idealize.ShloMosaic.Lib.Pipeline.FrameBody
public import Idealize.ShloMosaic.Lib.ValueIdx
public import Idealize.ShloMosaic.Lib.Tactic

@[expose] public section

noncomputable section

namespace Cert.DispatchProof

open Cert.Dispatch Cert.Dispatch.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the pipeline's own, and the exchange's rounds. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The launch state: the given memory, every counter zero. -/
def s₀ : MemSt nD τ sig (Elt F) := ⟨m, fun _ => 0, ρ⟩

/-! ## The partner -/

set_option backward.proofsInPublic true in
/-- The device at the other x coordinate. -/
def peer (c : Dev nD) : Dev nD := ⟨(c.val + 4) % 8, Nat.mod_lt _ (by decide)⟩
theorem peer_peer (c : Dev nD) : peer (peer c) = c := by revert c; decide
theorem peer_half (c : Dev nD) : (peer c).val / 4 = 1 - c.val / 4 := by revert c; decide
theorem half_lt (c : Dev nD) : c.val / 4 < 2 := by revert c; decide
/-- Exchanging every device with its partner. -/
def swap : Dev nD ≃ Dev nD := ⟨peer, peer, peer_peer, peer_peer⟩

theorem dev1_eq (c : Dev nD) : (⟨k0_dev1 c, k0_dev1_lt c⟩ : Dev nD) = peer c := by revert c; decide +kernel
theorem dev2_eq (c : Dev nD) : (⟨k0_dev2 c, k0_dev2_lt c⟩ : Dev nD) = peer c := by revert c; decide +kernel
theorem dev3_eq (c : Dev nD) : (⟨k0_dev3 c, k0_dev3_lt c⟩ : Dev nD) = peer c := by revert c; decide +kernel
theorem off2_eq (c : Dev nD) : k0_off2 c = k0_off1 c := (k0_off2_eq c).trans (k0_off1_eq c).symm

/-! ## The memrefs and the semaphores -/

abbrev xM : Memref sig .tc .vmem S1024x1024 .f32 := Memref.whole cc0_stg0_0
abbrev rM : Memref sig .tc .vmem S1024x8 .f32 := Memref.whole cc0_stg1_0
abbrev gM : Memref sig .tc .vmem S2048x1024 .f32 := Memref.whole cc0_stg2_0
abbrev oM : Memref sig .tc .vmem S1024x8 .f32 := Memref.whole cc0_stg3_0

/-- The rows of the gathered buffer that device `d`'s x coordinate names. -/
abbrev rowsOf (d : Dev nD) : Rect S2048x1024 := Rect.unit (s := S2048x1024) (k0_off1 d) S1024x1024.size (k0_off1_inb d)
abbrev landM (d : Dev nD) : Memref sig .tc .vmem S1024x1024 .f32 := gM.slice (rowsOf d) (fun _ => rfl)

abbrev barS : Sem sig := (SemArray.scalar (sig.barrier 0 rfl) : Sems sig S_).sem
/-- The send semaphores of the rows and of the columns, and the receive semaphores of the same. -/
abbrev sX : DmaSem sig := ⟨4, by decide⟩
abbrev sR : DmaSem sig := ⟨5, by decide⟩
abbrev vX : DmaSem sig := ⟨6, by decide⟩
abbrev vR : DmaSem sig := ⟨7, by decide⟩

theorem send_slice0 : ((cc0_scratch0.slice (Rect.unit (s := S2) ![0] S1.size inb_S2_S1_0)).squeeze S_ squeezes_S1_S_).sem = sX := rfl
theorem send_slice1 : ((cc0_scratch0.slice (Rect.unit (s := S2) ![1] S1.size inb_S2_S1_1)).squeeze S_ squeezes_S1_S_).sem = sR := rfl
theorem recv_slice0 : ((cc0_scratch1.slice (Rect.unit (s := S2) ![0] S1.size inb_S2_S1_0)).squeeze S_ squeezes_S1_S_).sem = vX := rfl
theorem recv_slice1 : ((cc0_scratch1.slice (Rect.unit (s := S2) ![1] S1.size inb_S2_S1_1)).squeeze S_ squeezes_S1_S_).sem = vR := rfl

abbrev barCell (c : Dev nD) : GSem nD τ sig := ((c : Thread nD τ), .reg barS)
abbrev dcell (q : DmaSem sig) (c : Dev nD) : GSem nD τ sig := ((c : Thread nD τ), .dma q)

/-- The five semaphores of a device the exchange uses, the barrier's first; and the kernel's own four of them. -/
abbrev csem : Fin 5 → SemLoc sig := fun | 0 => .reg barS | 1 => .dma sX | 2 => .dma sR | 3 => .dma vX | 4 => .dma vR
abbrev osem : Fin 4 → SemLoc sig := fun | 0 => .dma sX | 1 => .dma sR | 2 => .dma vX | 3 => .dma vR
abbrev kcell (ck : Dev nD × Fin 5) : GSem nD τ sig := ((ck.1 : Thread nD τ), csem ck.2)

/-- The credits of the two transfers. -/
abbrev NX : ℕ := (xM : Memref sig .tc .vmem S1024x1024 .f32).view.dmaCredit
abbrev NR : ℕ := (rM : Memref sig .tc .vmem S1024x8 .f32).view.dmaCredit
theorem NX_pos : 0 < NX := View.dmaCredit_pos _ (by decide)
theorem NR_pos : 0 < NR := View.dmaCredit_pos _ (by decide)
/-- The credit a DMA semaphore of the exchange is paid. -/
def credOf (q : SemLoc sig) : ℕ := if q = .reg barS then 1 else if q = .dma sX ∨ q = .dma vX then NX else NR

/-! ## Contents -/

/-- Device `c`'s token rows and router columns, as staged. -/
def xstg (c : Dev nD) : (cc0_stg0_0 : Ref sig .tc).ty.Contents (Elt F) :=
  (win0_0.blk (0 : Fin 1)).view.read (Elt F) ((s₀ m ρ).mem ((c : Thread nD τ).loc main_arg0))
def rstg (c : Dev nD) : (cc0_stg1_0 : Ref sig .tc).ty.Contents (Elt F) :=
  (win0_1.blk (0 : Fin 1)).view.read (Elt F) ((s₀ m ρ).mem ((c : Thread nD τ).loc main_arg1))

/-- The gathered rows: row `i` is row `i mod 1024` of the device, among `c` and its partner, whose x coordinate is
    `i / 1024`. -/
def gath (c : Dev nD) : (cc0_stg2_0 : Ref sig .tc).ty.Contents (Elt F) := fun i =>
  xstg m ρ (if (i 0).val / 1024 = c.val / 4 then c else peer c) (ValueIdx.ix2 ⟨(i 0).val % 1024, Nat.mod_lt _ (by decide)⟩ (i 1))

/-- The elements of the gathered buffer in the rows device `d`'s x coordinate names. -/
def half (d : Dev nD) : Finset S2048x1024.Idx := (rowsOf d).set

theorem mem_half {d : Dev nD} {i : S2048x1024.Idx} : i ∈ half d ↔ (i 0).val / 1024 = d.val / 4 := by
  have h1 : (i 1).val < 1024 := (i 1).isLt
  have h0 : (i 0).val < 2048 := (i 0).isLt
  have hd := half_lt d
  unfold half
  rw [Rect.mem_set_unit, Fin.forall_fin_two, k0_off1_eq]
  show (1024 * (d.val / 4) ≤ (i 0).val ∧ (i 0).val < 1024 * (d.val / 4) + 1024) ∧ (0 ≤ (i 1).val ∧ (i 1).val < 0 + 1024) ↔ _
  omega

theorem half_compl (c : Dev nD) : Finset.univ \ half c = half (peer c) := by
  ext i
  have h0 : (i 0).val < 2048 := (i 0).isLt
  have hd := half_lt c
  have hp := peer_half c
  rw [Finset.mem_sdiff, mem_half, mem_half]
  simp only [Finset.mem_univ, true_and]
  omega

theorem land_set (d : Dev nD) : (landM d).view.set = half d := View.set_slice_whole _ _

/-- The row and column inside its block of an element in device `d`'s rows. -/
def inner (i : S2048x1024.Idx) : S1024x1024.Idx := ValueIdx.ix2 ⟨(i 0).val % 1024, Nat.mod_lt _ (by decide)⟩ (i 1)

theorem land_emb {d : Dev nD} {i : S2048x1024.Idx} (h : i ∈ half d) : (landM d).view.emb (inner i) = i := by
  have h0 : (i 0).val < 2048 := (i 0).isLt
  have hd := half_lt d
  rw [mem_half] at h
  funext a
  apply Fin.ext
  show (k0_off1 d) a + 1 * ((inner i) a).val = (i a).val
  rw [k0_off1_eq]
  refine Fin.cases ?_ (fun b => ?_) a
  · show 1024 * (d.val / 4) + 1 * ((i 0).val % 1024) = (i 0).val
    omega
  · obtain rfl : b = 0 := Subsingleton.elim _ _
    show 0 + 1 * (i 1).val = (i 1).val
    omega

omit [FloatOps F] in
/-- Device `d`'s rows written in its half of the gathered buffer of `c` (which is `d` or its partner) are the gathered
    rows there. -/
theorem write_half {c d : Dev nD} (hcd : c = d ∨ c = peer d) (f : (cc0_stg2_0 : Ref sig .tc).ty.Contents (Elt F)) {i : S2048x1024.Idx} (h : i ∈ half d) :
    (landM d).view.write (Elt F) f (xstg m ρ d) Finset.univ i = gath m ρ c i := by
  have e := land_emb h
  rw [mem_half] at h
  conv_lhs => rw [← e]
  rw [View.write_emb_of_mem _ _ (Finset.mem_univ _)]
  show xstg m ρ d (inner i) = xstg m ρ (if (i 0).val / 1024 = c.val / 4 then c else peer c) (inner i)
  rcases hcd with rfl | rfl
  · rw [if_pos h]
  · have hd := half_lt d
    rw [if_neg (by rw [peer_half]; omega), peer_peer]

/-! ## What is held -/

/-- Device `c`'s gathered buffer, in the rows device `d`'s x coordinate names. -/
def gPts (c d : Dev nD) (f : (cc0_stg2_0 : Ref sig .tc).ty.Contents (Elt F)) : sProp 𝕄 :=
  (landM d).view.loc (c : Thread nD τ) ↦[(landM d).view.set]{fullShare} f
def oPts (c : Dev nD) (f : (cc0_stg3_0 : Ref sig .tc).ty.Contents (Elt F)) : sProp 𝕄 :=
  (oM : Memref sig .tc .vmem S1024x8 .f32).view.loc (c : Thread nD τ) ↦[(oM : Memref sig .tc .vmem S1024x8 .f32).view.set]{fullShare} f
/-- The staged token rows at a share (half of it goes with the transfer, the other half is read meanwhile), and the staged
    router columns. -/
def xPts (q : PosShare TreeShare) (c : Dev nD) : sProp 𝕄 :=
  (xM : Memref sig .tc .vmem S1024x1024 .f32).view.loc (c : Thread nD τ) ↦[(xM : Memref sig .tc .vmem S1024x1024 .f32).view.set]{q} xstg m ρ c
def rPts (c : Dev nD) : sProp 𝕄 :=
  (rM : Memref sig .tc .vmem S1024x8 .f32).view.loc (c : Thread nD τ) ↦[(rM : Memref sig .tc .vmem S1024x8 .f32).view.set]{fullShare} rstg m ρ c

omit [FloatOps F] in
instance gPts_storable (c d : Dev nD) (f) : BI.Storable (upEmb : UEmb _ 𝕄) (gPts (F := F) c d f) := by unfold gPts; infer_instance
omit [FloatOps F] in
instance oPts_storable (c : Dev nD) (f) : BI.Storable (upEmb : UEmb _ 𝕄) (oPts (F := F) c f) := by unfold oPts; infer_instance
omit [FloatOps F] in
instance xPts_storable (q) (c : Dev nD) : BI.Storable (upEmb : UEmb _ 𝕄) (xPts (F := F) m ρ q c) := by unfold xPts; infer_instance
omit [FloatOps F] in
instance rPts_storable (c : Dev nD) : BI.Storable (upEmb : UEmb _ 𝕄) (rPts (F := F) m ρ c) := by unfold rPts; infer_instance

omit [FloatOps F] in
theorem gPts_eq (c d : Dev nD) (f) : gPts (F := F) c d f = (((c : Thread nD τ).loc cc0_stg2_0) ↦[half d]{fullShare} f : sProp 𝕄) := by
  unfold gPts; rw [land_set]
omit [FloatOps F] in
theorem oPts_eq (c : Dev nD) (f) : oPts (F := F) c f = (((c : Thread nD τ).loc cc0_stg3_0) ↦{fullShare} f : sProp 𝕄) := by
  unfold oPts; rw [View.set_whole]
omit [FloatOps F] in
theorem xPts_eq (q) (c : Dev nD) : xPts m ρ q c = (((c : Thread nD τ).loc cc0_stg0_0) ↦{q} xstg m ρ c : sProp 𝕄) := by
  unfold xPts; rw [View.set_whole]
omit [FloatOps F] in
theorem rPts_eq (c : Dev nD) : rPts m ρ c = (((c : Thread nD τ).loc cc0_stg1_0) ↦{fullShare} rstg m ρ c : sProp 𝕄) := by
  unfold rPts; rw [View.set_whole]

omit [FloatOps F] in
/-- The whole share of the staged rows is its two halves. -/
theorem x_halves (c : Dev nD) : (((c : Thread nD τ).loc cc0_stg0_0) ↦{fullShare} xstg m ρ c : sProp 𝕄)
    ⊣⊢ iprop(xPts m ρ fullShare.left c ∗ xPts m ρ fullShare.right c) := by
  rw [xPts_eq, xPts_eq]; exact pointsTo_share (PosShare.mem_left_op_right fullShare)

omit [FloatOps F] in
/-- The gathered buffer is the rows of `c`'s x coordinate and those of its partner's. -/
theorem g_halves (c : Dev nD) (f : (cc0_stg2_0 : Ref sig .tc).ty.Contents (Elt F)) : (((c : Thread nD τ).loc cc0_stg2_0) ↦{fullShare} f : sProp 𝕄)
    ⊣⊢ iprop(gPts c c f ∗ gPts c (peer c) f) := by
  rw [gPts_eq, gPts_eq, ← half_compl c]; exact pointsTo_split_subset (Finset.subset_univ _)

omit [FloatOps F] in
/-- What a write of `d`'s rows leaves in that half of `c`'s gathered buffer. -/
theorem gPts_written {c d : Dev nD} (hcd : c = d ∨ c = peer d) (f : (cc0_stg2_0 : Ref sig .tc).ty.Contents (Elt F)) :
    gPts (F := F) c d ((landM d).view.write (Elt F) f (xstg m ρ d) Finset.univ) = gPts c d (gath m ρ c) := by
  rw [gPts_eq, gPts_eq]; exact pointsTo_congr fun i hi => write_half m ρ hcd f hi

/-! ## The rounds -/

/-- What device `d` is told at its barrier: its partner's gathered buffer at `d`'s rows and its partner's column buffer are
    `d`'s to write, and the two receive semaphores there are at their first round. -/
def barPay (d : Dev nD) : sProp 𝕄 :=
  iprop((∃ f, gPts (peer d) d f) ∗ (∃ f, oPts (peer d) f) ∗ reached ER (dcell vX (peer d)) 0 ∗ reached ER (dcell vR (peer d)) 0)

/-- Each of the five semaphores is paid once, by one duty. -/
def sched : Rounds.Schedule (GSem nD τ sig) Bool 𝕄 where
  duties g r := if r = 0 ∧ g.1.2 = .tc ∧ (∃ k, g.2 = csem k) then {false} else ∅
  unitless _ := False
  amount g _ _ := credOf g.2
  payload g _ _ :=
    if g.2 = .reg barS then barPay g.1.1
    else if g.2 = .dma sX then xPts m ρ fullShare.left g.1.1
    else if g.2 = .dma sR then rPts m ρ g.1.1
    else if g.2 = .dma vX then gPts g.1.1 (peer g.1.1) (gath m ρ g.1.1)
    else if g.2 = .dma vR then oPts g.1.1 (rstg m ρ (peer g.1.1))
    else iprop(emp)
  amount_pos g _ _ _ := by
    unfold credOf; split
    · exact Nat.one_pos
    · split
      · exact NX_pos
      · exact NR_pos

instance sched_storable (g : GSem nD τ sig) (r : ℕ) (d : Bool) :
    BI.Storable (upEmb : UEmb _ 𝕄) ((sched (F := F) m ρ).payload g r d) := by
  show BI.Storable upEmb (if g.2 = .reg barS then barPay g.1.1
    else if g.2 = .dma sX then xPts m ρ fullShare.left g.1.1
    else if g.2 = .dma sR then rPts m ρ g.1.1
    else if g.2 = .dma vX then gPts g.1.1 (peer g.1.1) (gath m ρ g.1.1)
    else if g.2 = .dma vR then oPts g.1.1 (rstg m ρ (peer g.1.1))
    else iprop(emp))
  unfold barPay
  (repeat' split) <;> infer_instance

section Sched
variable (c : Dev nD)

omit [FloatOps F] in
theorem duties_at (k : Fin 5) : (sched (F := F) m ρ).duties (kcell (c, k)) 0 = {false} := by
  dsimp only [sched]; exact if_pos ⟨rfl, rfl, k, rfl⟩
omit [FloatOps F] in
theorem mem_duties (k : Fin 5) : false ∈ (sched (F := F) m ρ).duties (kcell (c, k)) 0 := by
  rw [duties_at]; exact Finset.mem_singleton_self _
omit [FloatOps F] in
theorem duties_later (g : GSem nD τ sig) : ∀ r, 1 ≤ r → (sched (F := F) m ρ).duties g r = ∅ :=
  fun r hr => by dsimp only [sched]; rw [if_neg fun h => by omega]
omit [FloatOps F] in
theorem expect_at (k : Fin 5) : (sched (F := F) m ρ).expect (kcell (c, k)) 0 = credOf (csem k) := by
  unfold Schedule.expect Schedule.amountOf; rw [duties_at, Finset.sum_singleton]; rfl
omit [FloatOps F] in
theorem rest_at (k : Fin 5) : bigSep ((sched (F := F) m ρ).duties (kcell (c, k)) 0 \ ∅) (fun d => (sched (F := F) m ρ).payload (kcell (c, k)) 0 d)
    = (sched (F := F) m ρ).payload (kcell (c, k)) 0 false := by
  rw [Finset.sdiff_empty, duties_at, bigSep_singleton]

theorem cred_bar : credOf (csem 0) = 1 := if_pos rfl
theorem cred_sX : credOf (csem 1) = NX := by unfold credOf; rw [if_neg (by decide), if_pos (by decide)]
theorem cred_sR : credOf (csem 2) = NR := by unfold credOf; rw [if_neg (by decide), if_neg (by decide)]
theorem cred_vX : credOf (csem 3) = NX := by unfold credOf; rw [if_neg (by decide), if_pos (by decide)]
theorem cred_vR : credOf (csem 4) = NR := by unfold credOf; rw [if_neg (by decide), if_neg (by decide)]

omit [FloatOps F] in
theorem pay_bar (d : Bool) : (sched (F := F) m ρ).payload (barCell c) 0 d = barPay c := by dsimp only [sched]; exact if_pos rfl
omit [FloatOps F] in
theorem pay_sX (d : Bool) : (sched (F := F) m ρ).payload (dcell sX c) 0 d = xPts m ρ fullShare.left c := by
  dsimp only [sched]; rw [if_neg (by decide), if_pos rfl]
omit [FloatOps F] in
theorem pay_sR (d : Bool) : (sched (F := F) m ρ).payload (dcell sR c) 0 d = rPts m ρ c := by
  dsimp only [sched]; rw [if_neg (by decide), if_neg (by decide), if_pos rfl]
omit [FloatOps F] in
theorem pay_vX (d : Bool) : (sched (F := F) m ρ).payload (dcell vX c) 0 d = gPts c (peer c) (gath m ρ c) := by
  dsimp only [sched]; rw [if_neg (by decide), if_neg (by decide), if_neg (by decide), if_pos rfl]
omit [FloatOps F] in
theorem pay_vR (d : Bool) : (sched (F := F) m ρ).payload (dcell vR c) 0 d = oPts c (rstg m ρ (peer c)) := by
  dsimp only [sched]; rw [if_neg (by decide), if_neg (by decide), if_neg (by decide), if_neg (by decide), if_pos rfl]

end Sched

/-! ## What a device owes at launch; the levels -/

/-- A device owes its partner's barrier a unit and its partner's two receive semaphores the two transfers' credits. Spelt so
    that each payment takes the last summand away. -/
def O₂ (c : Dev nD) : CellTallies nD τ sig Unit := tallyAt (dcell vR (peer c)) () NR
def O₁ (c : Dev nD) : CellTallies nD τ sig Unit := O₂ c + tallyAt (dcell vX (peer c)) () NX
def O₀ (c : Dev nD) : CellTallies nD τ sig Unit := O₁ c + tallyAt (barCell (peer c)) () 1

def L (g : GSem nD τ sig) : Finset Unit := if g.1.2 = .tc then {()} else ∅
/-- The staging and send semaphores lowest, then the barrier's, then the receive semaphores. -/
def lv (g : GSem nD τ sig) (_ : Unit) : ℕ := if g.2 = .reg barS then 1 else if g.2 = .dma vX ∨ g.2 = .dma vR then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₁_pos {c : Dev nD} {g : GSem nD τ sig} {u : Unit} (h : 0 < O₁ c g u) : g = dcell vR (peer c) ∨ g = dcell vX (peer c) := by
  unfold O₁ O₂ at h
  rw [Pi.add_apply, Finsupp.add_apply, tallyAt_apply, tallyAt_apply] at h
  by_contra hn; rw [not_or] at hn
  rw [if_neg (fun h' => hn.1 h'.1), if_neg (fun h' => hn.2 h'.1)] at h
  exact Nat.lt_irrefl 0 h
theorem O₀_pos {c : Dev nD} {g : GSem nD τ sig} {u : Unit} (h : 0 < O₀ c g u) :
    (g = dcell vR (peer c) ∨ g = dcell vX (peer c)) ∨ g = barCell (peer c) := by
  unfold O₀ at h
  rw [Pi.add_apply, Finsupp.add_apply, tallyAt_apply] at h
  by_contra hn; rw [not_or] at hn
  rw [if_neg (fun h' => hn.2 h'.1), Nat.add_zero] at h
  exact hn.1 (O₁_pos h)

omit [FloatOps F] in
/-- A staging wait is below everything a device ever owes. -/
theorem mayWait_stage (c : Dev nD) (q : DmaSem sig) (hq : ¬ (SemLoc.dma q = (.dma vX : SemLoc sig) ∨ SemLoc.dma q = (.dma vR : SemLoc sig)))
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with (rfl | rfl) | rfl <;> exact Finset.mem_singleton_self _)
      (fun p hp => by rw [Finset.mem_singleton.mp hp]; dsimp only [lv]; rw [if_neg (fun h => by cases h), if_neg hq])
      (fun g u hg => by
        rcases O₀_pos hg with (rfl | rfl) | rfl <;> dsimp only [lv]
        · rw [if_neg (fun h => by cases h), if_pos (.inr rfl)]; decide
        · rw [if_neg (fun h => by cases h), if_pos (.inl rfl)]; decide
        · rw [if_pos rfl]; decide)
  · rw [MayWait_zero]; iintro -; iempintro

omit [FloatOps F] in
/-- At its barrier wait a device owes the two receive credits, which are above the barrier. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by rcases O₁_pos hg with rfl | rfl <;> exact Finset.mem_singleton_self _)
    (fun p hp => by rw [Finset.mem_singleton.mp hp]; dsimp only [lv]; rw [if_pos rfl])
    (fun g u hg => by
      rcases O₁_pos hg with rfl | rfl <;> dsimp only [lv]
      · rw [if_neg (fun h => by cases h), if_pos (.inr rfl)]; decide
      · rw [if_neg (fun h => by cases h), if_pos (.inl rfl)]; decide)

/-! ## The pipeline's proof data -/

/-- The invariants device `c` uses: its own five cells', and its partner's barrier's and receive cells'. -/
def invs (K : Dev nD × Fin 5 → ℕ) (c : Dev nD) : sProp 𝕄 :=
  iprop(cellInv ER (sched m ρ) (K (c, 0)) (barCell c) ∗ cellInv ER (sched m ρ) (K (c, 1)) (dcell sX c) ∗ cellInv ER (sched m ρ) (K (c, 2)) (dcell sR c)
    ∗ cellInv ER (sched m ρ) (K (c, 3)) (dcell vX c) ∗ cellInv ER (sched m ρ) (K (c, 4)) (dcell vR c)
    ∗ cellInv ER (sched m ρ) (K (peer c, 0)) (barCell (peer c)) ∗ cellInv ER (sched m ρ) (K (peer c, 3)) (dcell vX (peer c))
    ∗ cellInv ER (sched m ρ) (K (peer c, 4)) (dcell vR (peer c)))

instance invs_persistent (K : Dev nD × Fin 5 → ℕ) (c : Dev nD) : BI.Persistent (invs m ρ K c) := by unfold invs; infer_instance

/-- The duties device `c` pays. -/
def payToks (c : Dev nD) : sProp 𝕄 :=
  iprop(dutyTok ER (barCell (peer c)) 0 false ∗ dutyTok ER (dcell vX (peer c)) 0 false ∗ dutyTok ER (dcell vR (peer c)) 0 false
    ∗ dutyTok ER (dcell sX c) 0 false ∗ dutyTok ER (dcell sR c) 0 false)

def ghost (K : Dev nD × Fin 5 → ℕ) (c : Dev nD) : sProp 𝕄 :=
  iprop(invs m ρ K c
    ∗ atPos ER (barCell c) 0 ∅ 0 ∗ atPos ER (dcell sX c) 0 ∅ 0 ∗ atPos ER (dcell sR c) 0 ∅ 0 ∗ atPos ER (dcell vX c) 0 ∅ 0 ∗ atPos ER (dcell vR c) 0 ∅ 0
    ∗ reached ER (barCell (peer c)) 0 ∗ reached ER (dcell vX (peer c)) 0 ∗ reached ER (dcell vR (peer c)) 0
    ∗ reached ER (dcell sX c) 0 ∗ reached ER (dcell sR c) 0 ∗ reached ER (dcell vX c) 0 ∗ reached ER (dcell vR c) 0
    ∗ payToks c)

/-- What device `c` starts the kernel with. -/
def start (c : Dev nD) : sProp 𝕄 :=
  iprop((∃ K, ghost m ρ K c) ∗ cred (tallyAt (barCell c) () 1) ∗ cred (tallyAt (dcell vX c) () NX) ∗ cred (tallyAt (dcell vR c) () NR) ∗ levAts L lv)

/-- What it ends with: every counter of the five at zero. -/
def ended (c : Dev nD) : sProp 𝕄 :=
  iprop(semVal (barCell c) 0 ∗ semVal (dcell sX c) 0 ∗ semVal (dcell sR c) 0 ∗ semVal (dcell vX c) 0 ∗ semVal (dcell vR c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => rstg m ρ c
    | ⟨2, _⟩ => gath m ρ c
    | ⟨3, _⟩ => rstg m ρ (peer c)
  Φ t := match t with
    | ⟨0, _⟩ => start m ρ c
    | ⟨_ + 1, _⟩ => ended c
  q _ := fullShare
  owed t := match t with
    | ⟨0, _⟩ => O₀ c
    | ⟨_ + 1, _⟩ => 0

abbrev 𝒱₀ : Variants := Variants.none

end Cert.DispatchProof

end
-- ==== Proof.DispatchBody.lean ====
/- The exchange kernel's body on one device: its effects in program order, from what the device starts with to its
   gathered buffer holding both halves' token rows and its column buffer holding its partner's columns. -/
module

public import proofs.«01_k».proof.Proof.DispatchProtocol
public import Idealize.ShloMosaic.Lib.Pipeline.Value

@[expose] public section

noncomputable section

namespace Cert.DispatchProof

open Cert.Dispatch Cert.Dispatch.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
/-- The kernel's one grid point. -/
def t₀ : Fin cfg0.N := ⟨0, by rw [cfg0_N]; decide⟩
theorem fin_N (t : Fin cfg0.N) : t = t₀ := by obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The two transfers -/

section Body

variable (K : Dev nD × Fin 5 → ℕ)

omit [FloatOps F] in
/-- The transfer of the token rows to `n`, the partner: the source at its left half share, the partner's gathered buffer at
    `c`'s rows written. -/
theorem send_rows (c n : Dev nD) (hn : n = peer c) {hsc : (landM c : Memref sig (Dev.tc n : Thread nD τ).2.kind .vmem S1024x1024 .f32).view.ref.isScScratch = false}
    {hsrc : (xM : Memref sig .tc .vmem S1024x1024 .f32).view.WordExact} {hdst : (landM c).view.WordExact}
    {hsem : DmaTarget.Typed .vmem (.dma vX) (.remote (Dev.tc n : Thread nD τ) (landM c) (.dma sX) hsc)}
    {α : Type} {Q : α → sProp 𝕄} {k : PUnit → Prog (TpuEff nD τ sig (Elt F) Λ₀ .tc) α} [FloatOps F]
    (f : (cc0_stg2_0 : Ref sig .tc).ty.Contents (Elt F)) (W : Waits sig Unit) :
    iprop(cellInv ER (sched m ρ) (K (c, 1)) (dcell sX c) ∗ cellInv ER (sched m ρ) (K (peer c, 3)) (dcell vX (peer c))
        ∗ xPts m ρ fullShare.left c ∗ gPts (peer c) c f ∗ owes (c : Thread nD τ) (O₁ c) W
        ∗ dutyTok ER (dcell sX c) 0 false ∗ reached ER (dcell sX c) 0 ∗ dutyTok ER (dcell vX (peer c)) 0 false ∗ reached ER (dcell vX (peer c)) 0)
      ⊢ iprop(((cred (tallyAt (dcell sX c) () NX) ∗ owes (c : Thread nD τ) (O₂ c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xM (.remote (Dev.tc n : Thread nD τ) (landM c) (.dma sX) hsc) (.dma vX) hsrc hdst hsem) k) Q) := by
  subst hn
  have hp : gPts (F := F) (peer c) c ((landM c).view.write (Elt F) f ((xM : Memref sig .tc .vmem S1024x1024 .f32).view.read (Elt F) (xstg m ρ c)) Finset.univ)
      = (sched (F := F) m ρ).payload (dcell vX (peer c)) 0 false := by
    rw [pay_vX, peer_peer, show (xM : Memref sig .tc .vmem S1024x1024 .f32).view.read (Elt F) (xstg m ρ c) = xstg m ρ c from View.read_whole _ _]
    exact gPts_written m ρ (.inr rfl) f
  unfold xPts gPts
  exact Rounds.wp_send_pointsTo 𝒱₀ ER (sched m ρ) (c : Thread nD τ) none (c' := (peer c : Thread nD τ)) (src := xM) (dst := landM c) (sS := .dma sX) (sem := .dma vX) (κ₁ := K (c, 1)) (κ₂ := K (peer c, 3))
    (r₁ := 0) (r₂ := 0) (d₁ := false) (d₂ := false) (fd := f) (mem_duties m ρ c 1) (mem_duties m ρ (peer c) 3)
    () () NX rfl cred_sX cred_vX (O₂ c) rfl (W := W)
    (by rw [pay_sX]; exact BI.Entails.refl _) (Entails.of_eq hp)

omit [FloatOps F] in
/-- The transfer of the router columns to the partner. -/
theorem send_cols (c n : Dev nD) (hn : n = peer c) {hsc : (oM : Memref sig (Dev.tc n : Thread nD τ).2.kind .vmem S1024x8 .f32).view.ref.isScScratch = false}
    {hsrc : (rM : Memref sig .tc .vmem S1024x8 .f32).view.WordExact} {hdst : (oM : Memref sig .tc .vmem S1024x8 .f32).view.WordExact}
    {hsem : DmaTarget.Typed .vmem (.dma vR) (.remote (Dev.tc n : Thread nD τ) (oM : Memref sig .tc .vmem S1024x8 .f32) (.dma sR) hsc)}
    {α : Type} {Q : α → sProp 𝕄} {k : PUnit → Prog (TpuEff nD τ sig (Elt F) Λ₀ .tc) α} [FloatOps F]
    (f : (cc0_stg3_0 : Ref sig .tc).ty.Contents (Elt F)) (W : Waits sig Unit) :
    iprop(cellInv ER (sched m ρ) (K (c, 2)) (dcell sR c) ∗ cellInv ER (sched m ρ) (K (peer c, 4)) (dcell vR (peer c))
        ∗ rPts m ρ c ∗ oPts (peer c) f ∗ owes (c : Thread nD τ) (O₂ c) W
        ∗ dutyTok ER (dcell sR c) 0 false ∗ reached ER (dcell sR c) 0 ∗ dutyTok ER (dcell vR (peer c)) 0 false ∗ reached ER (dcell vR (peer c)) 0)
      ⊢ iprop(((cred (tallyAt (dcell sR c) () NR) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma rM (.remote (Dev.tc n : Thread nD τ) oM (.dma sR) hsc) (.dma vR) hsrc hdst hsem) k) Q) := by
  subst hn
  have hp : oPts (F := F) (peer c) ((oM : Memref sig .tc .vmem S1024x8 .f32).view.write (Elt F) f ((rM : Memref sig .tc .vmem S1024x8 .f32).view.read (Elt F) (rstg m ρ c)) Finset.univ)
      = (sched (F := F) m ρ).payload (dcell vR (peer c)) 0 false := by
    rw [pay_vR, peer_peer, show (rM : Memref sig .tc .vmem S1024x8 .f32).view.read (Elt F) (rstg m ρ c) = rstg m ρ c from View.read_whole _ _]
    exact congrArg _ (View.write_whole_univ _ _ _)
  unfold rPts oPts
  exact Rounds.wp_send_pointsTo 𝒱₀ ER (sched m ρ) (c : Thread nD τ) none (c' := (peer c : Thread nD τ)) (src := rM) (dst := oM) (sS := .dma sR) (sem := .dma vR) (κ₁ := K (c, 2)) (κ₂ := K (peer c, 4))
    (r₁ := 0) (r₂ := 0) (d₁ := false) (d₂ := false) (fd := f) (mem_duties m ρ c 2) (mem_duties m ρ (peer c) 4)
    () () NR rfl cred_sR cred_vR 0 (by unfold O₂; rw [zero_add]) (W := W)
    (by rw [pay_sR]; exact BI.Entails.refl _) (Entails.of_eq hp)

/-- A wait for the whole credit of DMA semaphore `k` of the five, owing nothing: it hands over the semaphore's payload. -/
theorem wait_dma (c : Dev nD) (k : Fin 5) (q : DmaSem sig) (hk : csem k = .dma q) (N : ℕ) (hN : credOf (csem k) = N) (κ : ℕ) (W : Waits sig Unit)
    {s : Shape} {e : EltTy} {src dst : Memref sig .tc .vmem s e} {hsrc : src.view.WordExact} {hdst : dst.view.WordExact} (hd : dst.view.dmaCredit = N)
    {α : Type} {Q : α → sProp 𝕄} {kk : PUnit → Prog (TpuEff nD τ sig (Elt F) Λ₀ .tc) α} :
    iprop(cellInv ER (sched m ρ) κ (dcell q c) ∗ cred (tallyAt (dcell q c) () N) ∗ owes (c : Thread nD τ) 0 W ∗ atPos ER (dcell q c) 0 ∅ 0)
      ⊢ iprop(((owes (c : Thread nD τ) 0 (insert (SemLoc.dma q, ()) W) ∗ atPos ER (dcell q c) (0 + 1) ∅ 0
            ∗ (sched (F := F) m ρ).payload (dcell q c) 0 false) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  subst hd
  have he : (sched (F := F) m ρ).expect (dcell q c) 0 = dst.view.dmaCredit := by
    have := expect_at m ρ c k; rw [hN] at this; unfold kcell at this; rw [hk] at this; exact this
  have hr : bigSep ((sched (F := F) m ρ).duties (dcell q c) 0 \ ∅) (fun d => (sched (F := F) m ρ).payload (dcell q c) 0 d)
      = (sched (F := F) m ρ).payload (dcell q c) 0 false := by
    have := rest_at m ρ c k; unfold kcell at this; rw [hk] at this; exact this
  iintro ⟨#HI, Hc, HO, Hat⟩ Hk
  iapply (Rounds.wp_wait_rest_token 𝒱₀ ER (sched m ρ) (c : Thread nD τ) none (κ := κ)
      (wpE_waitDma2_eq 𝒱₀ (c : Thread nD τ) none Set.univ) (Set.mem_univ _) () (O := 0) (W := W) (R := 0) (m := 0) (T := ∅)
      (by rw [Nat.zero_add, he])) $$ [Hc HO Hat]
  · isplitr; · iexact HI
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq hr); iexact Hpay

/-! ## The body -/

/-- Staging buffer `b` of `c` holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def staged (c : Dev nD) : sProp 𝕄 :=
  iprop((∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPre (c : Dev nD) : sProp 𝕄 :=
  iprop((ghost m ρ K c ∗ cred (tallyAt (barCell c) () 1) ∗ cred (tallyAt (dcell vX c) () NX) ∗ cred (tallyAt (dcell vR c) () NR) ∗ levAts L lv)
    ∗ (dats m ρ 0 c).owesAt () t₀.castSucc ∗ staged m ρ c)

def bodyPost (c : Dev nD) : sProp 𝕄 :=
  iprop(ended c ∗ (dats m ρ 0 c).owesAt () t₀.succ ∗ stg c cc0_stg0_0 (xstg m ρ c) ∗ stg c cc0_stg1_0 (rstg m ρ c)
    ∗ stg c cc0_stg2_0 (gath m ρ c) ∗ stg c cc0_stg3_0 (rstg m ρ (peer c)))

/-- The load of the staged token rows reads them. -/
theorem read_x (c : Dev nD) : (xM : Memref sig .tc .vmem S1024x1024 .f32).view.readAt (Elt F)
    (Rect.unit (s := S1024x1024) ![0, 0] S1024x1024.size inb_S1024x1024_S1024x1024_0_0).toLoadRect (xstg m ρ c) = xstg m ρ c :=
  Memref.readAt_unit_zero (Elt F) cc0_stg0_0 (funext fun a => by fin_cases a <;> rfl) _ _

/-- The value stored is the one loaded: the reshape keeps the shape. -/
theorem pay_id (v : Vec F S1024x1024 .f32) : k0_pay1 v = v := by
  unfold k0_pay1; exact shapeCast_self _ _

theorem before_in (c : Dev nD) (w : Fin 4) (h : (cfg0.win w).fetch t₀ = true) (d) : (dats m ρ 0 c).before w t₀ d = (dats m ρ 0 c).fetched w t₀ d := by
  unfold Dat.before; rw [if_pos h]

set_option maxHeartbeats 1600000 in
/-- The body from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _) cc0_scratch0 cc0_scratch1) Kt := by
  simp only [cc0_body_eq_skeleton]; unfold cc0_body_skel
  simp only [k0_part1_eq_skeleton, k0_part2_eq_skeleton]; unfold k0_part1_skel k0_part2_skel
  simp only [semSignalWord, semWaitWord, Prog.lift, Prog.bind_op, Prog.bind_ret, Prog.pure_eq_ret, Prog.bind_assoc, wp_deviceId]
  simp only [send_slice0, send_slice1, recv_slice0, recv_slice1, off2_eq, pay_id]
  unfold bodyPre staged ghost invs payToks
  iintro ⟨⟨⟨⟨⟨#HIb, #HIsX, #HIsR, #HIvX, #HIvR, #HIbP, #HIvXP, #HIvRP⟩, HaB, HaSX, HaSR, HaVX, HaVR, #HrBP, #HrVXP, #HrVRP, #HrSX, #HrSR, #HrVX, #HrVR,
      HtBP, HtVXP, HtVRP, HtSX, HtSR⟩, HcB, HcVX, HcVR, #Hlev⟩,
    Ho, ⟨%d0, %g0, %hg0, Hx⟩, ⟨%d1, %g1, %hg1, Hr⟩, ⟨%d2, %g2, %hg2, Hg⟩, ⟨%d3, %g3, %hg3, Hout⟩⟩, Hk⟩
  have hx : g0 = xstg m ρ c := by rw [hg0, before_in m ρ c 0 (fetch0_0 t₀)]; rfl
  have hr : g1 = rstg m ρ c := by rw [hg1, before_in m ρ c 1 (fetch0_1 t₀)]; rfl
  subst hx hr
  unfold Dat.owesAt Pipeline.owesWithin
  icases Ho with ⟨%W, %hW, HO⟩
  rw [show (dats m ρ 0 c).owed t₀.castSucc = O₀ c from rfl]
  simp only [dev1_eq c]
  -- the gathered buffer in its two halves: the partner's rows go with the signal
  ihave Hg2 := (g_halves c g2).1 $$ Hg
  icases Hg2 with ⟨HgO, HgP⟩
  unfold O₀
  iapply (Rounds.wp_signal 𝒱₀ ER (sched m ρ) (c : Thread nD τ) none (dst := (peer c : Thread nD τ)) (κ := K (peer c, 0))
      (d := false) (mem_duties m ρ (peer c) 0) (cred_bar.trans (by decide)) () (O₁ c) rfl)
    $$ [HO HtBP HgP Hout]
  · isplitr; · iexact HIbP
    isplitl [HO]; · iexact HO
    isplitl [HtBP]; · iexact HtBP
    isplitl [HgP Hout]
    · rw [pay_bar]; unfold barPay; rw [peer_peer]
      isplitl [HgP]; · iexists g2; iexact HgP
      isplitl [Hout]; · iexists g3; rw [oPts_eq]; iexact Hout
      isplitr; · iexact HrVX
      iexact HrVR
    · iexact HrBP
  iintro HO
  -- the wait at the barrier, owing the two receive credits
  iapply (Rounds.wp_wait_rest_token 𝒱₀ ER (sched m ρ) (c : Thread nD τ) none (κ := K (c, 0))
      (wpE_semWait_eq 𝒱₀ (c : Thread nD τ) none Set.univ) (Set.mem_univ _) () (O := O₁ c) (W := W) (R := 0) (m := 0) (T := ∅)
      (by rw [show (sched (F := F) m ρ).expect ((c : Thread nD τ), SemLoc.reg barS) 0 = credOf (csem 0) from expect_at m ρ c 0, cred_bar]; decide)) $$ [HcB HO HaB]
  · isplitr; · iexact HIb
    isplitl [HcB]; · iexact HcB
    isplitl [HO]; · iexact HO
    isplitr; · iapply (mayWait_bar c); iexact Hlev
    iexact HaB
  iintro ⟨HO, HaB, -, Hpay⟩
  ihave Hb := (Entails.of_eq ((rest_at m ρ c 0).trans (pay_bar m ρ c false))) $$ Hpay
  unfold barPay
  icases Hb with ⟨⟨%fg, HgN⟩, ⟨%fo, HoN⟩, -, -⟩
  ihave Hx2 := (x_halves m ρ c).1 $$ Hx
  icases Hx2 with ⟨HxL, HxR⟩
  ihave Hr' := (Entails.of_eq (rPts_eq m ρ c).symm) $$ Hr
  -- the two transfers
  iapply (send_rows m ρ K c _ (dev2_eq c) fg (insert (SemLoc.reg barS, ()) W)) $$ [HxL HgN HO HtSX HtVXP]
  · isplitr; · iexact HIsX
    isplitr; · iexact HIvXP
    isplitl [HxL]; · iexact HxL
    isplitl [HgN]; · iexact HgN
    isplitl [HO]; · iexact HO
    isplitl [HtSX]; · iexact HtSX
    isplitr; · iexact HrSX
    isplitl [HtVXP]; · iexact HtVXP
    iexact HrVXP
  iintro ⟨HcSX, HO⟩
  iapply (send_cols m ρ K c _ (dev3_eq c) fo (insert (SemLoc.reg barS, ()) W)) $$ [Hr' HoN HO HtSR HtVRP]
  · isplitr; · iexact HIsR
    isplitr; · iexact HIvRP
    isplitl [Hr']; · iexact Hr'
    isplitl [HoN]; · iexact HoN
    isplitl [HO]; · iexact HO
    isplitl [HtSR]; · iexact HtSR
    isplitr; · iexact HrSR
    isplitl [HtVRP]; · iexact HtVRP
    iexact HrVRP
  iintro ⟨HcSR, HO⟩
  -- the device's own rows, copied while the transfers are under way: from the share of the rows that stayed
  unfold xPts gPts
  iapply (wp_load 𝒱₀ (c : Thread nD τ) none Set.univ (m := xM) (by rw [View.set_whole]; exact Finset.subset_univ _)) $$ HxR; iintro HxR
  rw [read_x]
  iapply (wp_load_rect 𝒱₀ (c : Thread nD τ) none Set.univ (m := gM) (r := rowsOf c) (subset_refl _)) $$ HgO; iintro HgO
  iapply (wp_store 𝒱₀ (c : Thread nD τ) none Set.univ (m := gM) (r := rowsOf c) (Mk := Finset.univ) (S := (gM.access (rowsOf c)).set) (View.setOn_subset_set _ _)) $$ HgO; iintro HgO
  ihave HgO' := (Entails.of_eq (gPts_written m ρ (c := c) (d := c) (.inl rfl) g2)) $$ [HgO]
  · unfold gPts; iexact HgO
  -- the four waits
  iapply (wait_dma m ρ c 1 sX rfl NX cred_sX (K (c, 1)) _ (dst := xM) rfl) $$ [HcSX HO HaSX]
  · isplitr; · iexact HIsX
    isplitl [HcSX]; · iexact HcSX
    isplitl [HO] <;> iassumption
  iintro ⟨HO, HaSX, HxL0⟩
  iapply (wait_dma m ρ c 3 vX rfl NX cred_vX (K (c, 3)) _ (dst := landM c) rfl) $$ [HcVX HO HaVX]
  · isplitr; · iexact HIvX
    isplitl [HcVX]; · iexact HcVX
    isplitl [HO] <;> iassumption
  iintro ⟨HO, HaVX, HgP0⟩
  iapply (wait_dma m ρ c 2 sR rfl NR cred_sR (K (c, 2)) _ (dst := rM) rfl) $$ [HcSR HO HaSR]
  · isplitr; · iexact HIsR
    isplitl [HcSR]; · iexact HcSR
    isplitl [HO] <;> iassumption
  iintro ⟨HO, HaSR, Hr0⟩
  iapply (wait_dma m ρ c 4 vR rfl NR cred_vR (K (c, 4)) _ (dst := oM) rfl) $$ [HcVR HO HaVR]
  · isplitr; · iexact HIvR
    isplitl [HcVR]; · iexact HcVR
    isplitl [HO] <;> iassumption
  iintro ⟨HO, HaVR, Ho0⟩
  ihave HxL := (Entails.of_eq (pay_sX m ρ c false)) $$ HxL0
  ihave HgP := (Entails.of_eq (pay_vX m ρ c false)) $$ HgP0
  ihave Hr := (Entails.of_eq ((pay_sR m ρ c false).trans (rPts_eq m ρ c))) $$ Hr0
  ihave Hout := (Entails.of_eq ((pay_vR m ρ c false).trans (oPts_eq c _))) $$ Ho0
  ihave Hx := (x_halves m ρ c).2 $$ [HxL HxR]
  · isplitl [HxL]; · iexact HxL
    unfold xPts; iexact HxR
  ihave Hg := (g_halves c (gath m ρ c)).2 $$ [HgO' HgP]
  · isplitl [HgO'] <;> iassumption
  -- the five counters back at zero
  imod (Rounds.cell_close ER (sched m ρ) (Set.mem_univ (K (c, 0))) (fun h => h) (R := 0 + 1) (duties_later m ρ (barCell c))) $$ [HaB] with HzB
  · isplitr; · iexact HIb
    iexact HaB
  imod (Rounds.cell_close ER (sched m ρ) (Set.mem_univ (K (c, 1))) (fun h => h) (R := 0 + 1) (duties_later m ρ (dcell sX c))) $$ [HaSX] with HzSX
  · isplitr; · iexact HIsX
    iexact HaSX
  imod (Rounds.cell_close ER (sched m ρ) (Set.mem_univ (K (c, 2))) (fun h => h) (R := 0 + 1) (duties_later m ρ (dcell sR c))) $$ [HaSR] with HzSR
  · isplitr; · iexact HIsR
    iexact HaSR
  imod (Rounds.cell_close ER (sched m ρ) (Set.mem_univ (K (c, 3))) (fun h => h) (R := 0 + 1) (duties_later m ρ (dcell vX c))) $$ [HaVX] with HzVX
  · isplitr; · iexact HIvX
    iexact HaVX
  imod (Rounds.cell_close ER (sched m ρ) (Set.mem_univ (K (c, 4))) (fun h => h) (R := 0 + 1) (duties_later m ρ (dcell vR c))) $$ [HaVR] with HzVR
  · isplitr; · iexact HIvR
    iexact HaVR
  rw [wp_ret]; imodintro
  iapply Hk
  unfold bodyPost ended Dat.owesAt Pipeline.owesWithin
  rw [show (dats m ρ 0 c).owed t₀.succ = 0 from rfl]
  isplitl [HzB HzSX HzSR HzVX HzVR]
  · isplitl [HzB]; · iexact HzB
    isplitl [HzSX]; · iexact HzSX
    isplitl [HzSR]; · iexact HzSR
    isplitl [HzVX] <;> iassumption
  isplitl [HO]
  · iexists (insert (SemLoc.dma vR, ()) (insert (SemLoc.dma sR, ()) (insert (SemLoc.dma vX, ()) (insert (SemLoc.dma sX, ()) (insert (SemLoc.reg barS, ()) W)))))
    isplitr; · ipureintro; exact fun _ _ => Or.inl trivial
    iexact HO
  isplitl [Hx]
  · iexists _; isplitr; · (ipureintro; rfl)
    iexact Hx
  isplitl [Hr]
  · iexists _; isplitr; · (ipureintro; rfl)
    iexact Hr
  isplitl [Hg]
  · iexists _; isplitr; · (ipureintro; rfl)
    iexact Hg
  iexists _; isplitr; · (ipureintro; rfl)
  iexact Hout

set_option maxRecDepth 4000 in
/-- The pipeline's obligation: the body at its one grid point. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show iprop(start m ρ c ∗ (dats m ρ 0 c).owesAt () t₀.castSucc ∗ staged m ρ c) ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _) cc0_scratch0 cc0_scratch1) (fun _ => bodyPost m ρ c)
  unfold start
  iintro ⟨⟨⟨%K, Hg⟩, Hrest⟩, Ho, Hst⟩
  iapply (sound_body m ρ K c fun _ => bodyPost m ρ c)
  unfold bodyPre
  isplitr []
  · isplitl [Hg Hrest]
    · isplitl [Hg] <;> iassumption
    isplitl [Ho] <;> iassumption
  · iintro H; iexact H

end Body

end Cert.DispatchProof

end
-- ==== Proof.DispatchRun.lean ====
/- The exchange kernel's run on the mesh: the launch deals every device its own semaphores' rounds and its partner's
   duties, the bodies run, and every final state has each array at the contents the proof data names, every counter zero. -/
module

public import proofs.«01_k».proof.Proof.DispatchBody
public import Idealize.ShloMosaic.Lib.Pipeline.CollectiveSegs

@[expose] public section

noncomputable section

namespace Cert.DispatchProof

open Cert.Dispatch Cert.Dispatch.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide
theorem share_eq (c : Dev nD) (w : Fin cfg0.W) : (dats m ρ 0 c).share w = fullShare := by unfold Dat.share; split <;> rfl

/-! ## The launch's ghost state -/

theorem kcell_injective : Function.Injective (kcell : Dev nD × Fin 5 → GSem nD τ sig) := by
  rintro ⟨c, k⟩ ⟨c', k'⟩ h
  obtain rfl : c = c' := by have := congrArg (fun g : GSem nD τ sig => g.1.1) h; exact this
  have h2 : csem k = csem k' := congrArg Prod.snd h
  obtain rfl : k = k' := by fin_cases k <;> fin_cases k' <;> first | rfl | exact absurd h2 (by decide)
  rfl
def cells₀ : Finset (GSem nD τ sig) := Finset.univ.map ⟨kcell, kcell_injective⟩
def toks₀ : Finset (GSem nD τ sig × ℕ × Bool) := Finset.univ.map
  ⟨fun ck : Dev nD × Fin 5 => (kcell ck, 0, false), fun a b h => kcell_injective (congrArg Prod.fst h)⟩

def u₀ : UU := (initOf (Pipeline.cells cfgs cellOf_inj) (Pipeline.launchToks cfgs cellOf_inj), initOf cells₀ toks₀)

/-- The duty tokens of a device's own five cells. -/
def toks (c : Dev nD) : sProp 𝕄 := bigSep Finset.univ fun k : Fin 5 => dutyTok ER (kcell (c, k)) 0 false

/-- What the launch element deals device `c`. -/
def G (c : Dev nD) : sProp 𝕄 :=
  iprop((bigSep Finset.univ fun k : Fin 5 => roundState ER (sched m ρ) (kcell (c, k)) 0)
    ∗ (bigSep Finset.univ fun k : Fin 5 => iprop(atPos ER (kcell (c, k)) 0 ∅ 0 ∗ reached ER (kcell (c, k)) 0)) ∗ toks c)
def G' (c : Dev nD) : sProp 𝕄 := iprop(∃ K, ghost m ρ K c)

omit [FloatOps F] in
theorem bigSep_fin5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ

omit [FloatOps F] in
theorem fund₀ : BI.own (ER (initOf cells₀ toks₀)) ⊢ (|==> bigSep Finset.univ (G m ρ) : sProp 𝕄) := by
  have hX (Φ : GSem nD τ sig → sProp 𝕄) : bigSep cells₀ Φ = bigSep Finset.univ fun c : Dev nD => bigSep Finset.univ fun k : Fin 5 => Φ (kcell (c, k)) := by
    unfold cells₀; rw [bigSep_map, bigSep_univ_prod]; rfl
  have hT : bigSep toks₀ (fun x => (dutyTok ER x.1 x.2.1 x.2.2 : sProp 𝕄)) = bigSep Finset.univ fun c : Dev nD => toks c := by
    unfold toks₀; rw [bigSep_map, bigSep_univ_prod]; rfl
  iintro HX
  imod (Rounds.fund ER (sched m ρ) cells₀ toks₀) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal (dcell sX c) 0 ∗ semVal (dcell sR c) 0 ∗ semVal (dcell vX c) 0 ∗ semVal (dcell vR c) 0) := by
  rw [Pipeline.ownSems0_eq_of_list c osem [0, 1, 2, 3] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's invariants allocated: its counters at zero and its rounds' states put away. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  rw [ownSems0_eq, unscopedSems0_eq]
  iintro ⟨⟨H1, H2, H3, H4⟩, HB, Hst, Hat, Htok⟩
  imod (show iprop((bigSep Finset.univ fun k : Fin 5 => semVal (kcell (c, k)) 0) ∗ bigSep Finset.univ fun k : Fin 5 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [H1 H2 H3 H4 HB Hst] with Hinv
  · isplitr [Hst]
    · rw [bigSep_fin5]
      isplitl [HB]; · iexact HB
      isplitl [H1]; · iexact H1
      isplitl [H2]; · iexact H2
      isplitl [H3]; · iexact H3
      iexact H4
    iexact Hst
  imodintro
  isplitl [Hinv]; · iexact Hinv
  isplitl [Hat]; · iexact Hat
  iexact Htok

/-- Every cell's invariant, and that it is at its first round. -/
def records (K : Dev nD × Fin 5 → ℕ) : sProp 𝕄 :=
  iprop((bigSep Finset.univ fun ck : Dev nD × Fin 5 => cellInv ER (sched m ρ) (K ck) (kcell ck))
    ∗ bigSep Finset.univ fun ck : Dev nD × Fin 5 => reached ER (kcell ck) 0)
instance records_persistent (K : Dev nD × Fin 5 → ℕ) : BI.Persistent (records m ρ K) := by unfold records; infer_instance

omit [FloatOps F] in
theorem inv_at (K : Dev nD × Fin 5 → ℕ) (ck : Dev nD × Fin 5) :
    (bigSep Finset.univ fun ck : Dev nD × Fin 5 => (cellInv ER (sched m ρ) (K ck) (kcell ck) : sProp 𝕄)) ⊢ cellInv ER (sched m ρ) (K ck) (kcell ck) :=
  bigSep_elim (Finset.mem_univ ck)
omit [FloatOps F] in
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

def linear (c : Dev nD) : sProp 𝕄 := iprop((bigSep Finset.univ fun k : Fin 5 => atPos ER (kcell (c, k)) 0 ∅ 0) ∗ payToks c)

omit [FloatOps F] in
theorem ghost_intro (K : Dev nD × Fin 5 → ℕ) (c : Dev nD) : iprop(records m ρ K ∗ linear c) ⊢ G' m ρ c := by
  unfold records linear G' ghost invs
  rw [bigSep_fin5]
  iintro ⟨⟨#HI, #HR⟩, ⟨Ha0, Ha1, Ha2, Ha3, Ha4⟩, Ht⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (c, 4)); iexact HI
    isplitr; · iapply (inv_at m ρ K (peer c, 0)); iexact HI
    isplitr; · iapply (inv_at m ρ K (peer c, 3)); iexact HI
    iapply (inv_at m ρ K (peer c, 4)); iexact HI
  isplitl [Ha0]; · iexact Ha0
  isplitl [Ha1]; · iexact Ha1
  isplitl [Ha2]; · iexact Ha2
  isplitl [Ha3]; · iexact Ha3
  isplitl [Ha4]; · iexact Ha4
  isplitr; · iapply (reached_at (F := F) (peer c, 0)); iexact HR
  isplitr; · iapply (reached_at (F := F) (peer c, 3)); iexact HR
  isplitr; · iapply (reached_at (F := F) (peer c, 4)); iexact HR
  isplitr; · iapply (reached_at (F := F) (c, 1)); iexact HR
  isplitr; · iapply (reached_at (F := F) (c, 2)); iexact HR
  isplitr; · iapply (reached_at (F := F) (c, 3)); iexact HR
  isplitr; · iapply (reached_at (F := F) (c, 4)); iexact HR
  iexact Ht

omit [FloatOps F] in
/-- The tokens dealt: the barrier's and the receive cells' to the partner; the send tokens stay. -/
theorem toks_dealt : (bigSep Finset.univ fun c : Dev nD => (toks c : sProp 𝕄)) ⊢ bigSep Finset.univ fun c : Dev nD => payToks c := by
  unfold toks payToks
  rw [bigSep_congr (s := Finset.univ) (fun (c : Dev nD) _ => bigSep_fin5 (fun k : Fin 5 => (dutyTok ER (kcell (c, k)) 0 false : sProp 𝕄)))]
  rw [bigSep_sep', bigSep_sep', bigSep_sep', bigSep_sep', bigSep_sep', bigSep_sep', bigSep_sep', bigSep_sep',
    bigSep_univ_equiv swap (fun c : Dev nD => (dutyTok ER (kcell (c, 0)) 0 false : sProp 𝕄)),
    bigSep_univ_equiv swap (fun c : Dev nD => (dutyTok ER (kcell (c, 3)) 0 false : sProp 𝕄)),
    bigSep_univ_equiv swap (fun c : Dev nD => (dutyTok ER (kcell (c, 4)) 0 false : sProp 𝕄))]
  iintro ⟨H0, H1, H2, H3, H4⟩
  isplitl [H0]; · iexact H0
  isplitl [H3]; · iexact H3
  isplitl [H4]; · iexact H4
  isplitl [H1]; · iexact H1
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 5 => iprop(∃ κ : ℕ, cellInv ER (sched m ρ) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (sched m ρ) κ (kcell ck) : sProp 𝕄))) $$ HI
  icases HK with ⟨%K, #HI⟩
  ihave Htk := (toks_dealt (F := F)) $$ Htok
  iapply (bigSep_with_persistent (R := records m ρ K) (Φ := linear) fun c _ => ghost_intro m ρ K c)
  isplitr
  · unfold records; isplitl; · iexact HI
    iexact HR
  · unfold linear; rw [bigSep_sep']
    isplitl [Hat]; · iexact Hat
    iexact Htk

omit [FloatOps F] in
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
theorem cell_eq_iff {a b : Dev nD} {sm : SemLoc sig} : Iff ((((a : Thread nD τ), sm) : GSem nD τ sig) = ((b : Thread nD τ), sm)) (a = b) :=
  ⟨fun h => Fin.ext (congrArg (fun g : GSem nD τ sig => g.1.1.val) h), fun h => h ▸ rfl⟩

omit [FloatOps F] in
/-- What device `d` owes any cell. -/
theorem owed_apply (d : Dev nD) (g : GSem nD τ sig) : O₀ d g ()
    = ((if g = dcell vR (peer d) then NR else 0) + (if g = dcell vX (peer d) then NX else 0)) + (if g = barCell (peer d) then 1 else 0) := by
  unfold O₀ O₁ O₂
  simp only [Pi.add_apply, Finsupp.add_apply, tallyAt_apply, and_true]

omit [FloatOps F] in
/-- A cell of the partner's is `c`'s exactly for the partner. -/
theorem owed_ite (d c : Dev nD) (sm : SemLoc sig) (n : ℕ) :
    (if (((c : Thread nD τ), sm) : GSem nD τ sig) = ((peer d : Thread nD τ), sm) then n else 0) = if d = peer c then n else 0 := by
  by_cases h : d = peer c
  · subst h; rw [peer_peer, if_pos rfl, if_pos rfl]
  · rw [if_neg (fun h1 => h (by rw [← peer_peer d]; exact congrArg peer (cell_eq_iff.mp h1).symm)), if_neg h]

omit [FloatOps F] in
theorem owed_bar (d c : Dev nD) : O₀ d (barCell c) () = if d = peer c then 1 else 0 := by
  rw [owed_apply, if_neg (fun h => by cases h), if_neg (fun h => by cases h), owed_ite]; simp only [Nat.zero_add]
omit [FloatOps F] in
theorem owed_vX (d c : Dev nD) : O₀ d (dcell vX c) () = if d = peer c then NX else 0 := by
  rw [owed_apply, if_neg (show ¬ dcell vX c = dcell vR (peer d) from fun h => absurd (show (SemLoc.dma vX : SemLoc sig) = SemLoc.dma vR from congrArg Prod.snd h) (by decide)),
    if_neg (show ¬ dcell vX c = barCell (peer d) from fun h => by cases h), owed_ite]; simp only [Nat.zero_add, Nat.add_zero]
omit [FloatOps F] in
theorem owed_vR (d c : Dev nD) : O₀ d (dcell vR c) () = if d = peer c then NR else 0 := by
  rw [owed_apply, if_neg (show ¬ dcell vR c = dcell vX (peer d) from fun h => absurd (show (SemLoc.dma vR : SemLoc sig) = SemLoc.dma vX from congrArg Prod.snd h) (by decide)),
    if_neg (show ¬ dcell vR c = barCell (peer d) from fun h => by cases h), owed_ite]; simp only [Nat.zero_add, Nat.add_zero]

omit [FloatOps F] in
theorem launch_at (c : Dev nD) (sm : SemLoc sig) (n : ℕ) (h : ∀ d, O₀ d ((c : Thread nD τ), sm) () = if d = peer c then n else 0) :
    tallyOn ((c : Thread nD τ), sm) (launchCredit (Pipeline.owing O₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (peer c) fun _ => n,
    if_pos (Finset.mem_univ _)]

omit [FloatOps F] in
theorem launchCred_split (c : Dev nD) :
    (Pipeline.launchCred O₀ c : sProp 𝕄) = iprop(cred (tallyAt (barCell c) () 1) ∗ cred (tallyAt (dcell vX c) () NX) ∗ cred (tallyAt (dcell vR c) () NR)
      ∗ bigSep (((Finset.univ.erase (SemLoc.reg barS)).erase (SemLoc.dma vX)).erase (SemLoc.dma vR))
          (fun sm : SemLoc sig => cred (tallyOn (((c : Thread nD τ), sm) : GSem nD τ sig) (launchCredit (Pipeline.owing O₀) 0 ((c : Thread nD τ), sm))))) := by
  unfold Pipeline.launchCred
  rw [bigSep_univ_at _ (SemLoc.reg barS), bigSep_erase (Finset.mem_erase.mpr ⟨(fun h => by cases h), Finset.mem_univ (SemLoc.dma vX)⟩),
    bigSep_erase (Finset.mem_erase.mpr ⟨(by decide), Finset.mem_erase.mpr ⟨(fun h => by cases h), Finset.mem_univ (SemLoc.dma vR)⟩⟩),
    launch_at c _ 1 (fun d => owed_bar d c), launch_at c _ NX (fun d => owed_vX d c), launch_at c _ NR (fun d => owed_vR d c)]
  rfl
omit [FloatOps F] in
theorem creds (c : Dev nD) :
    (Pipeline.launchCred O₀ c : sProp 𝕄) ⊢ iprop(cred (tallyAt (barCell c) () 1) ∗ cred (tallyAt (dcell vX c) () NX) ∗ cred (tallyAt (dcell vR c) () NR)) := by
  rw [launchCred_split]
  iintro ⟨H1, H2, H3, -⟩
  isplitl [H1]; · iexact H1
  isplitl [H2] <;> iassumption

/-! ## The run -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HX, HR⟩
  imodintro
  unfold start G'
  isplitl
  · isplitl [HG]; · iexact HG
    isplitl [H1]; · iexact H1
    isplitl [HX]; · iexact HX
    isplitl [HR]; · iexact HR
    iexact Hlev
  · iempintro

theorem phi_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl]
  iintro ⟨Hs, -, -⟩
  iexact Hs

theorem phi_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = ended c from rfl, scopedRest0_eq, ownSems0_eq, unscopedSems0_eq]
  unfold ended
  iintro ⟨HB, H1⟩
  isplitl [HB]; · iexact HB
  isplitl [H1]; · iexact H1
  iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- Every window's array ends as the proof data says. -/
def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
/-- From any memory with zero counters, every fair execution of the exchange terminates, each array at its computed contents
    and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund₀ m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi_intro m ρ) (hout := phi_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.DispatchProof

end
-- ==== Proof.DispatchValue.lean ====
/- What the exchange leaves in each device's arrays, and that these are the whole token array and the device's block of
   the router columns, the two halves exchanged. -/
module

public import proofs.«01_k».proof.Proof.DispatchRun
public import proofs.«01_k».proof.Proof.Gen.DispatchReference
public import proofs.«01_k».proof.Defs
public import Idealize.ShloMosaic.Lib.Pipeline.ValueKit
public import Idealize.ShloMosaic.Lib.Claim
public import Idealize.ShloMosaic.Lib.Pointwise
public import Idealize.ShloMosaic.Lib.Layout

@[expose] public section

noncomputable section

namespace Cert.DispatchProof

open Cert.Dispatch Cert.Dispatch.Gen
open Idealize.ShloMosaic
open Idealize.ShloMosaic.TcCoe
open Idealize.SL Idealize.SL.RA Idealize.SL.BI
open Idealize.SL.BI.BIBase Idealize.SL.ProofMode Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

/-! ## The arrays after the run -/

theorem final_x (c : Dev nD) : (dats m ρ 0 c).arrAt (0 : Fin 4) cfg0.N = m ((c : Thread nD τ).loc main_arg0) :=
  (dats m ρ 0 c).arrAt_in (0 : Fin 4) rfl _
theorem final_r (c : Dev nD) : (dats m ρ 0 c).arrAt (1 : Fin 4) cfg0.N = m ((c : Thread nD τ).loc main_arg1) :=
  (dats m ρ 0 c).arrAt_in (1 : Fin 4) rfl _
theorem final_g (c : Dev nD) : (dats m ρ 0 c).arrAt (2 : Fin 4) cfg0.N = gath m ρ c := by
  refine (dats m ρ 0 c).arrAt_eq_of_after_last (2 : Fin 4) t₀ (by decide +kernel) _ fun j => ?_
  blk_simp
  rfl
theorem final_o (c : Dev nD) : (dats m ρ 0 c).arrAt (3 : Fin 4) cfg0.N = rstg m ρ (peer c) := by
  refine (dats m ρ 0 c).arrAt_eq_of_after_last (3 : Fin 4) t₀ (by decide +kernel) _ fun j => ?_
  blk_simp
  rfl

/-- The run's final arrays by name: the gathered rows, the partner's columns, the arguments as they were. -/
theorem run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v1_0) = gath m ρ c
      ∧ r.2.mem ((c.tc : Thread nD τ).loc main_v1_1) = rstg m ρ (peer c)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c (2 : Fin 4)).trans (final_g m ρ c), (h.1 c (3 : Fin 4)).trans (final_o m ρ c),
    (h.1 c (0 : Fin 4)).trans (final_x m ρ c), (h.1 c (1 : Fin 4)).trans (final_r m ρ c)⟩, h.2⟩) (run_main m ρ)

/-! ## The staged blocks are the arrays -/

theorem xstg_apply (c : Dev nD) (j : S1024x1024.Idx) : xstg m ρ c j = m ((c : Thread nD τ).loc main_arg0) j := by
  unfold xstg
  rw [View.read_apply]
  refine congrArg (m _) (funext fun b => Fin.ext ?_)
  fin_cases b
  · show 0 * _ + 1 * (j 0).val = (j 0).val; omega
  · show 0 * _ + 1 * (j 1).val = (j 1).val; omega
theorem rstg_apply (c : Dev nD) (j : S1024x8.Idx) : rstg m ρ c j = m ((c : Thread nD τ).loc main_arg1) j := by
  unfold rstg
  rw [View.read_apply]
  refine congrArg (m _) (funext fun b => Fin.ext ?_)
  fin_cases b
  · show 0 * _ + 1 * (j 0).val = (j 0).val; omega
  · show 0 * _ + 1 * (j 1).val = (j 1).val; omega

/-- Device `c`'s position on the x axis. -/
theorem lin_x (c : Dev nD) : Layout.meshLin [2, 2, 2] c.val [0] = c.val / 4 := by revert c; decide

/-- Where every device holds its rows of one token array, the gathered rows are that array. -/
theorem gath_eq (X : S2048x1024.Idx → Elt F .f32)
    (h : ∀ c : Dev nD, m ((c : Thread nD τ).loc main_arg0) = Layout.blockN ⟨2, ![1024, 1024]⟩ ⟨2, ![2048, 1024]⟩ (Layout.meshBlock [2, 2, 2] ![[0], []] c) X)
    (c : Dev nD) : gath m ρ c = X := by
  funext i
  have h0 : (i 0).val < 2048 := (i 0).isLt
  have hc := half_lt c
  have hp := peer_half c
  unfold gath
  rw [xstg_apply, h, Layout.blockN_apply]
  refine congrArg X (funext fun b => Fin.ext ?_)
  fin_cases b
  · show Layout.meshLin [2, 2, 2] _ [0] * 1024 + (i 0).val % 1024 = (i 0).val
    rw [lin_x]
    split <;> omega
  · show 0 * 1024 + (i 1).val = (i 1).val
    omega

/-- An array of columns with its two halves exchanged, as the plain program writes it. -/
def swapped (R : Cert.DispatchReference.S1024x16.Idx → Elt F .f32) : Cert.DispatchReference.S1024x16.Idx → Elt F .f32 :=
  (concatenate Cert.DispatchReference.S1024x16 1
        [⟨Cert.DispatchReference.S1024x8, extractStridedSlice Cert.DispatchReference.S1024x8 ![0, 8] R Cert.DispatchReference.Gen.slices_S1024x16_S1024x8_0_8⟩,
         ⟨Cert.DispatchReference.S1024x8, extractStridedSlice Cert.DispatchReference.S1024x8 ![0, 0] R Cert.DispatchReference.Gen.slices_S1024x16_S1024x8_0_0⟩]
        Cert.DispatchReference.Gen.concatenates_S1024x8_S1024x8_S1024x16_d1)

theorem cols_tile : Layout.TilesN ⟨2, ![1024, 8]⟩ ⟨2, ![1024, 16]⟩ (fun b : Fin 2 => Layout.cutSize [2, 2, 2] ((![[], [0]] : Fin 2 → List ℕ) b)) := by decide

/-- Where every device holds its block of one array of columns, the partner's block is the device's block of the array with its
    two halves exchanged. -/
theorem cols_eq (R : Cert.DispatchReference.S1024x16.Idx → Elt F .f32) (h : ∀ c : Dev nD, m ((c : Thread nD τ).loc main_arg1)
      = Layout.blockN ⟨2, ![1024, 8]⟩ ⟨2, ![1024, 16]⟩ (Layout.meshBlock [2, 2, 2] ![[], [0]] c) R) (c : Dev nD) :
    rstg m ρ (peer c) = Layout.blockN ⟨2, ![1024, 8]⟩ ⟨2, ![1024, 16]⟩ (Layout.meshBlock [2, 2, 2] ![[], [0]] c)
      (swapped R) := by
  funext i
  rw [rstg_apply, h]
  have hc := half_lt c
  have hp := peer_half c
  have h1 : (i 1).val < 8 := (i 1).isLt
  rw [Layout.blockN_apply, Layout.blockN_apply, swapped, concatenate_pair_apply]
  have hsz : ∀ d : Dev nD, ((show Layout.TilesN ⟨2, ![1024, 8]⟩ ⟨2, ![1024, 16]⟩ _ from cols_tile).idx
      (Layout.meshBlock [2, 2, 2] ![[], [0]] d) i 1).val = d.val / 4 * 8 + (i 1).val := fun d => by
    rw [Layout.TilesN.idx_val]; exact congrArg (· * 8 + (i 1).val) (lin_x d)
  have hsz0 : ∀ d : Dev nD, ((show Layout.TilesN ⟨2, ![1024, 8]⟩ ⟨2, ![1024, 16]⟩ _ from cols_tile).idx
      (Layout.meshBlock [2, 2, 2] ![[], [0]] d) i 0).val = (i 0).val := fun d => by
    rw [Layout.TilesN.idx_val]; show 0 * 1024 + (i 0).val = _; omega
  split
  · rename_i hlt
    have hlt' := (hsz c).symm.trans_lt hlt
    replace hlt' : c.val / 4 * 8 + (i 1).val < 8 := hlt'
    refine (extractStridedSlice_apply _ R _ _ _ fun a => ?_).symm
    fin_cases a
    · exact (hsz0 _).trans (show (i 0).val = 0 + _ from (by rw [Nat.zero_add]; exact (hsz0 c).symm))
    · refine (hsz _).trans (show _ = 8 + _ from Eq.trans ?_ (congrArg (8 + ·) (hsz c)).symm); omega
  · rename_i hlt
    have hlt' : ¬ c.val / 4 * 8 + (i 1).val < 8 := fun h => hlt ((hsz c).trans_lt h)
    refine (extractStridedSlice_apply _ R _ _ _ fun a => ?_).symm
    fin_cases a
    · exact (hsz0 _).trans (show (i 0).val = 0 + _ from (by rw [Nat.zero_add]; exact (hsz0 c).symm))
    · refine (hsz _).trans (show _ = 0 + _ from Eq.trans ?_ (congrArg (fun n => 0 + (n - 8)) (hsz c)).symm); omega

/-! ## The claims -/

theorem quiescent (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c).2.2.1, (h.1 c).2.2.2⟩, h.2⟩) (run m ρ)

/-- The exchange on eight devices and the plain program on one end with the same words: every device with the whole token array,
    and each with its block of the router columns, halves exchanged. -/
theorem bitexact : Cert.bitexact_Dispatch_DispatchReference (hDispatch := Cert.Dispatch.Gen.facts) (hDispatchReference := Cert.DispatchReference.Gen.facts) := by
  intro m g m' g' _ hagree
  refine ⟨m' (((0 : Dev Cert.DispatchReference.nD).tc : Thread Cert.DispatchReference.nD Cert.DispatchReference.τ).loc Cert.DispatchReference.main_arg0),
    swapped (m' (((0 : Dev Cert.DispatchReference.nD).tc : Thread Cert.DispatchReference.nD Cert.DispatchReference.τ).loc Cert.DispatchReference.main_arg1)),
    (θ_run defs _ _).mono (fun r h c => ?_) (run m g), ?_⟩
  · exact ⟨(h.1 c).1.trans (gath_eq m g _ (fun d => (hagree d).1) c), (h.1 c).2.1.trans (cols_eq m g _ (fun d => (hagree d).2) c), (h.1 c).2.2⟩
  · hlo_run
    all_goals first | rfl | (intros; rfl)

/-- The plain program, too, leaves its arguments and every counter as they were. -/
theorem quiescent_reference : Cert.quiescent_DispatchReference (hDispatchReference := Cert.DispatchReference.Gen.facts) := by
  intro m g _
  hlo_run
  · exact fun _ => ⟨trivial, trivial⟩
  · exact sem_eq_zero_of_no_sems rfl _

end Cert.DispatchProof

end
-- ==== Proof.KernelValue.lean ====
/- The claim about the expert kernel at the machine's words: it runs and leaves its arguments and every counter as they were. -/
module

public import proofs.«01_k».proof.Proof.KernelRun
public import proofs.«01_k».proof.Defs

@[expose] public section

noncomputable section

namespace Cert.KernelProof

open Cert.Kernel Cert.Kernel.Gen
open Idealize.ShloMosaic
open Idealize.ShloMosaic.TcCoe
open Idealize.SL.Sem

/-- The kernel runs, and leaves its arguments and every counter as they were. -/
theorem quiescent : Cert.quiescent_Kernel := fun m g _ =>
  (θ_run defs _ _).mono (fun _ h => ⟨fun c => ⟨(h.1 c).1, (h.1 c).2.1, (h.1 c).2.2.1, (h.1 c).2.2.2.1, (h.1 c).2.2.2.2.1⟩, h.2⟩) (run_main m g)

end Cert.KernelProof

end
-- ==== Proof.KernelIdealProtocol.lean ====
/- The expert kernel on the mesh: the contents its scratch buffers go through, the devices and semaphores of its one
   exchange, what each semaphore's round hands over, and what a device holds between two grid points.

   The grid runs over the eight experts of a device and, for each, over the four blocks of the hidden dimension. Device
   `c` sums the weighted expert results of the gathered tokens in one buffer, `part`; at the last point it sends the rows
   its partner needs into the partner's receive buffer and adds what it received to its own rows. The barrier at the first
   point is where each device tells its partner that the receive buffer may be written. -/
module

public import proofs.«01_k».proof.Proof.Gen.Kernel
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.VecWindow
public import Idealize.ShloMosaic.Lib.ValueIdx
public import Idealize.ShloMosaic.Lib.Tactic

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The ghost state: the pipeline's own, and the exchange's rounds. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The launch state: the given memory, every counter zero. -/
def s₀ : MemSt nD τ sig (Elt F) := ⟨m, fun _ => 0, ρ⟩

/-! ## The partner -/

set_option backward.proofsInPublic true in
/-- The device at the other x coordinate. -/
def peer (c : Dev nD) : Dev nD := ⟨(c.val + 4) % 8, Nat.mod_lt _ (by decide)⟩
theorem peer_peer (c : Dev nD) : peer (peer c) = c := by revert c; decide
theorem peer_half (c : Dev nD) : (peer c).val / 4 = 1 - c.val / 4 := by revert c; decide
theorem half_lt (c : Dev nD) : c.val / 4 < 2 := by revert c; decide
/-- Exchanging every device with its partner. -/
def swap : Dev nD ≃ Dev nD := ⟨peer, peer, peer_peer, peer_peer⟩

theorem dev1_val (c : Dev nD) : k0_dev1 c = (peer c).val := by revert c; decide +kernel
theorem dev2_val (c : Dev nD) : k0_dev2 c = (peer c).val := by revert c; decide +kernel

/-! ## The grid -/

theorem cfg0_N : cfg0.N = 32 := by decide
/-- Grid point `n`, counted modulo the grid. -/
def pt (n : ℕ) : Fin cfg0.N := ⟨n % 32, by rw [cfg0_N]; exact Nat.mod_lt _ (by decide)⟩
theorem t_lt (t : Fin cfg0.N) : t.val < 32 := lt_of_lt_of_eq t.isLt cfg0_N
theorem pt_self (t : Fin cfg0.N) : pt t.val = t := Fin.ext (Nat.mod_eq_of_lt (t_lt t))

theorem cond1_iff : ∀ t : Fin cfg0.N, k0_cond1 (grid0.coords t) = 1#1 ↔ t.val = 0 := by decide +kernel
theorem cond2_iff : ∀ t : Fin cfg0.N, k0_cond2 (grid0.coords t) = 1#1 ↔ t.val % 4 = 0 ∧ t.val ≠ 0 := by decide +kernel
theorem cond3_iff : ∀ t : Fin cfg0.N, k0_cond3 (grid0.coords t) = 1#1 ↔ t.val % 4 = 1 ∧ t.val / 4 < 7 := by decide +kernel
theorem cond4_iff : ∀ t : Fin cfg0.N, k0_cond4 (grid0.coords t) = 1#1 ↔ t.val % 4 = 0 := by decide +kernel
theorem cond5_iff : ∀ t : Fin cfg0.N, k0_cond5 (grid0.coords t) = 1#1 ↔ t.val % 4 ≠ 0 := by decide +kernel
theorem cond6_iff : ∀ t : Fin cfg0.N, k0_cond6 (grid0.coords t) = 1#1 ↔ t.val = 31 := by decide +kernel

theorem off1_eq : ∀ t : Fin cfg0.N, k0_cond2 (grid0.coords t) = 1#1 → k0_off1 (grid0.coords t) = ![(t.val / 4 + 1) % 2, 0, 0] := by decide +kernel
theorem off2_eq : ∀ t : Fin cfg0.N, k0_cond3 (grid0.coords t) = 1#1 → k0_off2 (grid0.coords t) = ![(t.val / 4 + 1) % 2, 0, 0] := by decide +kernel
theorem off3_eq : ∀ t : Fin cfg0.N, k0_off3 (grid0.coords t) = ![(t.val / 4) % 2, 0, 0] := by decide +kernel
theorem off4_eq : ∀ t : Fin cfg0.N, k0_cond4 (grid0.coords t) = 1#1 → k0_off4 (grid0.coords t) = ![(t.val / 4) % 2, 0, 0] := by decide +kernel
theorem off5_eq : ∀ t : Fin cfg0.N, k0_cond5 (grid0.coords t) = 1#1 → k0_off5 (grid0.coords t) = ![(t.val / 4) % 2, 0, 0] := by decide +kernel

/-! ## The two slots of a scratch buffer -/

theorem slot_inb (k : ℕ) : ∀ a, (![k % 2, 0, 0] : Fin 3 → ℕ) a + S1x304x1024.size a ≤ S2x304x1024.size a := by
  have h := Nat.mod_lt k (show 0 < 2 by decide)
  intro a; fin_cases a
  · show k % 2 + 1 ≤ 2; omega
  · show 0 + 304 ≤ 304; omega
  · show 0 + 1024 ≤ 1024; omega

/-- Slot `k mod 2` of a two-slot buffer's contents. -/
def slot (k : ℕ) (T : Vec F S2x304x1024 .f32) : Vec F S1x304x1024 .f32 :=
  VecWindow.window (s := S2x304x1024) T ![k % 2, 0, 0] S1x304x1024.size (slot_inb k)
/-- The contents with slot `k mod 2` replaced. -/
def setSlot (k : ℕ) (T : Vec F S2x304x1024 .f32) (w : Vec F S1x304x1024 .f32) : Vec F S2x304x1024 .f32 :=
  VecWindow.put (s := S2x304x1024) T ![k % 2, 0, 0] S1x304x1024.size w

omit [FloatOps F] in
theorem slot_mod (k k' : ℕ) (h : k' % 2 = k % 2) (T : Vec F S2x304x1024 .f32) : slot k' T = slot k T := by
  have H : ∀ (a b : ℕ) (hab : a = b) (ha : ∀ x, (![a, 0, 0] : Fin 3 → ℕ) x + S1x304x1024.size x ≤ S2x304x1024.size x)
      (hb : ∀ x, (![b, 0, 0] : Fin 3 → ℕ) x + S1x304x1024.size x ≤ S2x304x1024.size x),
      VecWindow.window (s := S2x304x1024) T ![a, 0, 0] S1x304x1024.size ha = VecWindow.window (s := S2x304x1024) T ![b, 0, 0] S1x304x1024.size hb := by
    intro a b hab ha hb; subst hab; rfl
  exact H _ _ h _ _
omit [FloatOps F] in
theorem slot_set_same (k k' : ℕ) (h : k' % 2 = k % 2) (T : Vec F S2x304x1024 .f32) (w) : slot k' (setSlot k T w) = w := by
  rw [slot_mod k k' h]; exact VecWindow.window_put_same _ _ _ _ _
omit [FloatOps F] in
theorem slot_set_other (k k' : ℕ) (h : k' % 2 ≠ k % 2) (T : Vec F S2x304x1024 .f32) (w) : slot k' (setSlot k T w) = slot k' T := by
  unfold slot setSlot
  exact VecWindow.window_put_of_disjoint _ _ _ _ _ _ _ (0 : Fin 3) (by show k' % 2 + 1 ≤ k % 2 ∨ k % 2 + 1 ≤ k' % 2; omega)
/-! ## The contents, by expert -/

/-- The point at which expert `e`'s tokens are gathered, and the one at which its result is scattered. -/
def gp : ℕ → ℕ := fun | 0 => 0 | e + 1 => 4 * e + 1
def sp (e : ℕ) : ℕ := if e = 7 then 31 else 4 * (e + 1)

/-- The weighted tokens of expert `e`. -/
def gath (c : Dev nD) (e : ℕ) : Vec F S1x304x1024 .f32 :=
  k0_pay7 (iblk m c 0 (pt (gp e))) (iblk m c 2 (pt (gp e))) (iblk m c 3 (pt (gp e)))
/-- Expert `e`'s result summed over the hidden blocks up to `f`. -/
def accum (c : Dev nD) (e : ℕ) : ℕ → Vec F S1x304x1024 .f32
  | 0 => k0_pay2 (gath m c e) (iblk m c 4 (pt (4 * e))) (iblk m c 5 (pt (4 * e)))
  | f + 1 => k0_pay3 (gath m c e) (iblk m c 4 (pt (4 * e + (f + 1)))) (iblk m c 5 (pt (4 * e + (f + 1)))) (accum c e f)
/-- The sum over the first `e` experts, in the tokens' rows. -/
def parts (c : Dev nD) : ℕ → Vec F S2048x1024 .f32
  | 0 => k0_pay6
  | e + 1 => k0_pay8 (iblk m c 1 (pt (sp e))) (parts c e) (accum m c e 3)

/-! ## The rows sent and kept -/

theorem off6_inb (d : Dev nD) : ∀ a, (k0_off6 d) a + S1024x1024.size a ≤ S2048x1024.size a := by revert d; decide +kernel
theorem off7_inb (d : Dev nD) : ∀ a, (k0_off7 d) a + S1024x1024.size a ≤ S2048x1024.size a := by revert d; decide +kernel
/-- The rows device `d` sends, its partner's, and those it keeps. -/
abbrev sentRect (d : Dev nD) : Rect S2048x1024 := Rect.unit (s := S2048x1024) (k0_off6 d) S1024x1024.size (off6_inb d)
abbrev keptRect (d : Dev nD) : Rect S2048x1024 := Rect.unit (s := S2048x1024) (k0_off7 d) S1024x1024.size (off7_inb d)
theorem off7_peer (d : Dev nD) : k0_off7 (peer d) = k0_off6 d := by revert d; decide +kernel

/-- What device `c` sends, and what it receives. -/
def sent (c : Dev nD) : Vec F S1024x1024 .f32 := View.ld (Val := Elt F) (e' := .f32) (parts m c 8) (sentRect c)
def recvd (c : Dev nD) : Vec F S1024x1024 .f32 := sent m (peer c)
/-- The kernel's result on device `c`. -/
def outv (c : Dev nD) : Vec F S1024x1024 .f32 := k0_pay4 (View.ld (Val := Elt F) (e' := .f32) (parts m c 8) (keptRect c)) (recvd m c)

/-! ## The memrefs and the semaphores -/

abbrev tM : Memref sig .tc .vmem S2x304x1024 .f32 := Memref.whole cc0_scratch0
abbrev aM : Memref sig .tc .vmem S2x304x1024 .f32 := Memref.whole cc0_scratch1
abbrev pM : Memref sig .tc .vmem S2048x1024 .f32 := Memref.whole cc0_scratch2
abbrev rM : Memref sig .tc .vmem S1024x1024 .f32 := Memref.whole cc0_scratch3
/-- The sent rows of the sum, as a memref. -/
abbrev sentM (d : Dev nD) : Memref sig .tc .vmem S1024x1024 .f32 := pM.slice (sentRect d) (fun _ => rfl)

abbrev barS : Sem sig := (SemArray.scalar (sig.barrier 1 rfl) : Sems sig S_).sem
/-- The send and the receive semaphore. -/
abbrev sS : DmaSem sig := ⟨12, by decide⟩
abbrev vR : DmaSem sig := ⟨13, by decide⟩
theorem send_sem : cc0_scratch4.sem = sS := rfl
theorem recv_sem : cc0_scratch5.sem = vR := rfl

abbrev barCell (c : Dev nD) : GSem nD τ sig := ((c : Thread nD τ), .reg barS)
abbrev dcell (q : DmaSem sig) (c : Dev nD) : GSem nD τ sig := ((c : Thread nD τ), .dma q)

/-- The three semaphores of a device the exchange uses, and the kernel's own two of them. -/
abbrev csem : Fin 3 → SemLoc sig := fun | 0 => .reg barS | 1 => .dma sS | 2 => .dma vR
abbrev osem : Fin 2 → SemLoc sig := fun | 0 => .dma sS | 1 => .dma vR
abbrev kcell (ck : Dev nD × Fin 3) : GSem nD τ sig := ((ck.1 : Thread nD τ), csem ck.2)

/-- The credit of the transfer. -/
abbrev NT : ℕ := (rM : Memref sig .tc .vmem S1024x1024 .f32).view.dmaCredit
theorem NT_pos : 0 < NT := View.dmaCredit_pos _ (by decide)
def credOf (q : SemLoc sig) : ℕ := if q = .reg barS then 1 else NT

/-! ## What is held -/

/-- Device `c`'s receive buffer, and the rows of its sum that it sends. -/
def rPts (c : Dev nD) (f : (cc0_scratch3 : Ref sig .tc).ty.Contents (Elt F)) : sProp 𝕄 :=
  (rM : Memref sig .tc .vmem S1024x1024 .f32).view.loc (c : Thread nD τ) ↦[(rM : Memref sig .tc .vmem S1024x1024 .f32).view.set]{fullShare} f
def sPts (c : Dev nD) (f : (cc0_scratch2 : Ref sig .tc).ty.Contents (Elt F)) : sProp 𝕄 :=
  (sentM c).view.loc (c : Thread nD τ) ↦[(sentM c).view.set]{fullShare} f

omit [FloatOps F] in
instance rPts_storable (c : Dev nD) (f) : BI.Storable (upEmb : UEmb _ 𝕄) (rPts (F := F) c f) := by unfold rPts; infer_instance
omit [FloatOps F] in
instance sPts_storable (c : Dev nD) (f) : BI.Storable (upEmb : UEmb _ 𝕄) (sPts (F := F) c f) := by unfold sPts; infer_instance

omit [FloatOps F] in
theorem rPts_eq (c : Dev nD) (f) : rPts (F := F) c f = (((c : Thread nD τ).loc cc0_scratch3) ↦{fullShare} f : sProp 𝕄) := by
  unfold rPts; rw [View.set_whole]

omit [FloatOps F] in
/-- The sum's buffer is the rows sent and the others. -/
theorem p_split (c : Dev nD) (f : (cc0_scratch2 : Ref sig .tc).ty.Contents (Elt F)) : (((c : Thread nD τ).loc cc0_scratch2) ↦{fullShare} f : sProp 𝕄)
    ⊣⊢ iprop(sPts c f ∗ (((c : Thread nD τ).loc cc0_scratch2) ↦[Finset.univ \ (sentM c).view.set]{fullShare} f : sProp 𝕄)) := by
  unfold sPts; exact pointsTo_split_subset (Finset.subset_univ _)

/-! ## The rounds -/

/-- What device `d` is told at its barrier: its partner's receive buffer is `d`'s to write, and the receive semaphore there
    is at its first round. -/
def barPay (d : Dev nD) : sProp 𝕄 := iprop((∃ f, rPts (peer d) f) ∗ reached ER (dcell vR (peer d)) 0)

/-- Each of the three semaphores is paid once, by one duty. -/
def sched : Rounds.Schedule (GSem nD τ sig) Bool 𝕄 where
  duties g r := if r = 0 ∧ g.1.2 = .tc ∧ (∃ k, g.2 = csem k) then {false} else ∅
  unitless _ := False
  amount g _ _ := credOf g.2
  payload g _ _ :=
    if g.2 = .reg barS then barPay g.1.1
    else if g.2 = .dma sS then sPts g.1.1 (parts m g.1.1 8)
    else if g.2 = .dma vR then rPts g.1.1 (recvd m g.1.1)
    else iprop(emp)
  amount_pos g _ _ _ := by
    unfold credOf; split
    · exact Nat.one_pos
    · exact NT_pos

instance sched_storable (g : GSem nD τ sig) (r : ℕ) (d : Bool) :
    BI.Storable (upEmb : UEmb _ 𝕄) ((sched (F := F) m).payload g r d) := by
  show BI.Storable upEmb (if g.2 = .reg barS then barPay g.1.1
    else if g.2 = .dma sS then sPts g.1.1 (parts m g.1.1 8)
    else if g.2 = .dma vR then rPts g.1.1 (recvd m g.1.1)
    else iprop(emp))
  unfold barPay
  (repeat' split) <;> infer_instance

section Sched
variable (c : Dev nD)

theorem duties_at (k : Fin 3) : (sched (F := F) m).duties (kcell (c, k)) 0 = {false} := by
  dsimp only [sched]; exact if_pos ⟨rfl, rfl, k, rfl⟩
theorem mem_duties (k : Fin 3) : false ∈ (sched (F := F) m).duties (kcell (c, k)) 0 := by
  rw [duties_at]; exact Finset.mem_singleton_self _
theorem duties_later (g : GSem nD τ sig) : ∀ r, 1 ≤ r → (sched (F := F) m).duties g r = ∅ :=
  fun r hr => by dsimp only [sched]; rw [if_neg fun h => by omega]
theorem expect_at (k : Fin 3) : (sched (F := F) m).expect (kcell (c, k)) 0 = credOf (csem k) := by
  unfold Schedule.expect Schedule.amountOf; rw [duties_at, Finset.sum_singleton]; rfl
theorem rest_at (k : Fin 3) : bigSep ((sched (F := F) m).duties (kcell (c, k)) 0 \ ∅) (fun d => (sched (F := F) m).payload (kcell (c, k)) 0 d)
    = (sched (F := F) m).payload (kcell (c, k)) 0 false := by
  rw [Finset.sdiff_empty, duties_at, bigSep_singleton]

theorem cred_bar : credOf (csem 0) = 1 := if_pos rfl
theorem cred_sS : credOf (csem 1) = NT := if_neg (fun h => by cases h)
theorem cred_vR : credOf (csem 2) = NT := if_neg (fun h => by cases h)

theorem pay_bar (d : Bool) : (sched (F := F) m).payload (barCell c) 0 d = barPay c := by dsimp only [sched]; exact if_pos rfl
theorem pay_sS (d : Bool) : (sched (F := F) m).payload (dcell sS c) 0 d = sPts c (parts m c 8) := by
  dsimp only [sched]; rw [if_neg (by decide), if_pos rfl]
theorem pay_vR (d : Bool) : (sched (F := F) m).payload (dcell vR c) 0 d = rPts c (recvd m c) := by
  dsimp only [sched]; rw [if_neg (by decide), if_neg (by decide), if_pos rfl]

end Sched

/-! ## What a device owes; the levels -/

/-- A device owes its partner's receive semaphore the transfer's credit until it has sent, and its partner's barrier a unit
    at launch. -/
def O₁ (c : Dev nD) : CellTallies nD τ sig Unit := tallyAt (dcell vR (peer c)) () NT
def O₀ (c : Dev nD) : CellTallies nD τ sig Unit := O₁ c + tallyAt (barCell (peer c)) () 1

def L (g : GSem nD τ sig) : Finset Unit := if g.1.2 = .tc then {()} else ∅
/-- The staging and send semaphores lowest, then the barrier's, then the receive semaphore. -/
def lv (g : GSem nD τ sig) (_ : Unit) : ℕ := if g.2 = .reg barS then 1 else if g.2 = .dma vR then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₁_pos {c : Dev nD} {g : GSem nD τ sig} {u : Unit} (h : 0 < O₁ c g u) : g = dcell vR (peer c) := by
  unfold O₁ at h
  rw [tallyAt_apply] at h
  by_contra hn
  rw [if_neg (fun h' => hn h'.1)] at h
  exact Nat.lt_irrefl 0 h
theorem O₀_pos {c : Dev nD} {g : GSem nD τ sig} {u : Unit} (h : 0 < O₀ c g u) : g = dcell vR (peer c) ∨ g = barCell (peer c) := by
  unfold O₀ at h
  rw [Pi.add_apply, Finsupp.add_apply, tallyAt_apply] at h
  by_contra hn; rw [not_or] at hn
  rw [if_neg (fun h' => hn.2 h'.1), Nat.add_zero] at h
  exact hn.1 (O₁_pos h)

omit [FloatOps F] in
/-- A wait at level 0 is below everything a device ever owes. -/
theorem mayWait_stage (c : Dev nD) (q : DmaSem sig) (hq : SemLoc.dma q ≠ (.dma vR : SemLoc sig))
    (O : CellTallies nD τ sig Unit) (hO : O = O₀ c ∨ O = O₁ c ∨ O = 0) :
    (levAts L lv : sProp 𝕄) ⊢ MayWait (c : Thread nD τ) (.dma q) () O := by
  rcases hO with rfl | rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl <;> dsimp only [lv]
        · rw [if_neg (fun h => by cases h), if_pos rfl]; decide
        · rw [if_pos rfl]; decide)
  · refine MayOwe.of_cut (L := L) (lev := lv) 0 (fun p hp => by rw [Finset.mem_singleton.mp hp, L_tc]; exact Finset.mem_singleton_self _)
      (fun g u hg => by obtain rfl := O₁_pos hg; exact Finset.mem_singleton_self _)
      (fun p hp => by rw [Finset.mem_singleton.mp hp]; dsimp only [lv]; rw [if_neg (fun h => by cases h), if_neg hq])
      (fun g u hg => by
        obtain rfl := O₁_pos hg; dsimp only [lv]
        rw [if_neg (fun h => by cases h), if_pos rfl]; decide)
  · rw [MayWait_zero]; iintro -; iempintro

omit [FloatOps F] in
/-- At its barrier wait a device owes the receive credit, which is above the barrier. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain rfl := O₁_pos hg; exact Finset.mem_singleton_self _)
    (fun p hp => by rw [Finset.mem_singleton.mp hp]; dsimp only [lv]; rw [if_pos rfl])
    (fun g u hg => by
      obtain rfl := O₁_pos hg; dsimp only [lv]
      rw [if_neg (fun h => by cases h), if_pos rfl]; decide)

/-! ## What a device holds between two points -/

/-- The invariants device `c` uses: its own three cells', and its partner's barrier's and receive cell's. -/
def invs (K : Dev nD × Fin 3 → ℕ) (c : Dev nD) : sProp 𝕄 :=
  iprop(cellInv ER (sched m) (K (c, 0)) (barCell c) ∗ cellInv ER (sched m) (K (c, 1)) (dcell sS c) ∗ cellInv ER (sched m) (K (c, 2)) (dcell vR c)
    ∗ cellInv ER (sched m) (K (peer c, 0)) (barCell (peer c)) ∗ cellInv ER (sched m) (K (peer c, 2)) (dcell vR (peer c)))

instance invs_persistent (K : Dev nD × Fin 3 → ℕ) (c : Dev nD) : BI.Persistent (invs m K c) := by unfold invs; infer_instance

/-- What the whole run keeps: the transfer's two semaphores at their first round, the duties of its two ends, the credit of
    the one that will arrive. -/
def kept (c : Dev nD) : sProp 𝕄 :=
  iprop(atPos ER (dcell sS c) 0 ∅ 0 ∗ atPos ER (dcell vR c) 0 ∅ 0 ∗ dutyTok ER (dcell vR (peer c)) 0 false ∗ dutyTok ER (dcell sS c) 0 false
    ∗ reached ER (dcell sS c) 0 ∗ cred (tallyAt (dcell vR c) () NT))

/-- What device `c` starts the kernel with. -/
def start (c : Dev nD) : sProp 𝕄 :=
  iprop((∃ K, invs m K c ∗ levAts L lv) ∗ kept c ∗ atPos ER (barCell c) 0 ∅ 0 ∗ reached ER (barCell (peer c)) 0 ∗ reached ER (dcell vR c) 0
    ∗ dutyTok ER (barCell (peer c)) 0 false ∗ cred (tallyAt (barCell c) () 1))
/-- What it holds after the barrier: its partner's receive buffer among it. -/
def mid (c : Dev nD) : sProp 𝕄 :=
  iprop((∃ K, invs m K c ∗ levAts L lv) ∗ kept c ∗ reached ER (dcell vR (peer c)) 0 ∗ (∃ f, rPts (peer c) f) ∗ semVal (barCell c) 0)
/-- What it ends with: its three counters at zero. -/
def ended (c : Dev nD) : sProp 𝕄 :=
  iprop(semVal (barCell c) 0 ∗ semVal (dcell sS c) 0 ∗ semVal (dcell vR c) 0)

/-- The scratch buffers that a point works on: the two token slots, the two result slots, the sum. -/
def scr (c : Dev nD) (T A : Vec F S2x304x1024 .f32) (P : Vec F S2048x1024 .f32) : sProp 𝕄 :=
  iprop(owns (Ix := Unit) (Name := ℕ) (U := UU) (Lvl := ℕ) (c : Thread nD τ) tM fullShare T
    ∗ owns (Ix := Unit) (Name := ℕ) (U := UU) (Lvl := ℕ) (c : Thread nD τ) aM fullShare A
    ∗ owns (Ix := Unit) (Name := ℕ) (U := UU) (Lvl := ℕ) (c : Thread nD τ) pM fullShare P)

/-- What point `s` leaves in them: the tokens of its expert, those of the next expert once they have been gathered, its
    expert's result up to its hidden block, and the sum over the experts before. -/
structure After (c : Dev nD) (s : ℕ) (T A : Vec F S2x304x1024 .f32) (P : Vec F S2048x1024 .f32) : Prop where
  tok : slot (s / 4) T = gath m c (s / 4)
  next : 1 ≤ s % 4 → s / 4 < 7 → slot (s / 4 + 1) T = gath m c (s / 4 + 1)
  acc : slot (s / 4) A = accum m c (s / 4) (s % 4)
  sum : P = parts m c (s / 4)

/-- The scratch buffers at some contents, the receive buffer among them. -/
def anyScr (c : Dev nD) : sProp 𝕄 := iprop((∃ T A P, scr c T A P) ∗ ∃ f, rPts c f)

/-- What device `c` holds before point `n`. -/
def inv (c : Dev nD) : ℕ → sProp 𝕄
  | 0 => iprop(start m c ∗ anyScr c)
  | s + 1 => if s + 1 < 32 then iprop(mid m c ∗ ∃ T A P, ⌜After m c s T A P⌝ ∗ scr c T A P) else iprop(ended c ∗ anyScr c)

def owedAt (c : Dev nD) (n : ℕ) : CellTallies nD τ sig Unit := if n = 0 then O₀ c else if n < 32 then O₁ c else 0

def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outv m c
  Φ t := inv m c t.val
  q _ := fullShare
  owed t := owedAt c t.val

abbrev 𝒱₀ : Variants := Variants.none

end Cert.KernelIdealProof

end
-- ==== Proof.KernelIdealSteps.lean ====
/- Loads and stores of the expert kernel through its memrefs, as what the memrefs hold: a buffer read or written whole, one
   slot of a two-slot buffer, the rows of the sum. -/
module

public import proofs.«01_k».proof.Proof.KernelIdealProtocol
public import Idealize.ShloMosaic.Lib.Pipeline.Value
public import Idealize.ShloMosaic.Lib.Writes

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

section Steps
variable (c : Dev nD) {s : Shape} {e : EltTy}

/-- A memref of device `c` held whole at the contents `X`. -/
abbrev has {s : Shape} {e : EltTy} (c : Dev nD) (a : Memref sig .tc .vmem s e) (X : Vec F s e) : sProp 𝕄 :=
  owns (Ix := Unit) (Name := ℕ) (U := UU) (Lvl := ℕ) (c : Thread nD τ) a fullShare X

/-- A load through a rectangle reads the rectangle of what the memref holds. -/
theorem load_rect (a : Memref sig .tc .vmem s e) (r : Rect s) {hl : a.view.LoadsAt r.toLoadRect}
    {α : Type} {Q : α → sProp 𝕄} {k : (r.shape.Idx → Elt F e) → Prog (TpuEff nD τ sig (Elt F) Λ₀ .tc) α} (X : Vec F s e) :
    has c a X ⊢ iprop((has c a X -∗ wp frame (wpE (defs₀ (F := F)) 𝒱₀ (c : Thread nD τ) none) Set.univ (k (View.ld (Val := Elt F) (e' := e) X r)) Q)
      -∗ wp frame (wpE (defs₀ (F := F)) 𝒱₀ (c : Thread nD τ) none) Set.univ (.op (.load a r.toLoadRect hl) k) Q) := by
  unfold has owns
  iintro ⟨%f, %hf, H⟩ Hk
  iapply (wp_load 𝒱₀ (c : Thread nD τ) none Set.univ (m := a) (View.setOn_subset_set _ _)) $$ H
  iintro H
  rw [show a.view.readAt (Elt F) r.toLoadRect f = View.ld (Val := Elt F) (e' := e) X r by rw [← hf]; rfl]
  iapply Hk
  iexists f; isplitr; · ipureintro; exact hf
  iexact H

/-- A load of the memref's own sizes reads what it holds. -/
theorem load_full (a : Memref sig .tc .vmem s e) {off : Fin s.rank → ℕ} {inb : ∀ x, off x + s.size x ≤ s.size x}
    {hl : a.view.LoadsAt (Rect.unit off s.size inb).toLoadRect}
    {α : Type} {Q : α → sProp 𝕄} {k : ((Rect.unit off s.size inb).shape.Idx → Elt F e) → Prog (TpuEff nD τ sig (Elt F) Λ₀ .tc) α} (X : Vec F s e) :
    has c a X ⊢ iprop((has c a X -∗ wp frame (wpE (defs₀ (F := F)) 𝒱₀ (c : Thread nD τ) none) Set.univ (k X) Q)
      -∗ wp frame (wpE (defs₀ (F := F)) 𝒱₀ (c : Thread nD τ) none) Set.univ (.op (.load a (Rect.unit off s.size inb).toLoadRect hl) k) Q) := by
  unfold has owns
  iintro ⟨%f, %hf, H⟩ Hk
  iapply (wp_load 𝒱₀ (c : Thread nD τ) none Set.univ (m := a) (View.setOn_subset_set _ _)) $$ H
  iintro H
  rw [View.readAt_full, hf]
  iapply Hk
  iexists f; isplitr; · ipureintro; exact hf
  iexact H

/-- A store of the memref's own sizes leaves what was stored. -/
theorem store_full (a : Memref sig .tc .vmem s e) {off : Fin s.rank → ℕ} {inb : ∀ x, off x + s.size x ≤ s.size x}
    {w : (Rect.unit off s.size inb).shape.Idx → Elt F e} {hx : (a.access (Rect.unit off s.size inb)).Stores Finset.univ} {hm : Finset.univ = Finset.univ ∨ ∀ x, (Rect.unit off s.size inb).stride x = 1}
    {α : Type} {Q : α → sProp 𝕄} {k : PUnit → Prog (TpuEff nD τ sig (Elt F) Λ₀ .tc) α} (X : Vec F s e) :
    has c a X ⊢ iprop((has c a w -∗ wp frame (wpE (defs₀ (F := F)) 𝒱₀ (c : Thread nD τ) none) Set.univ (k ⟨⟩) Q)
      -∗ wp frame (wpE (defs₀ (F := F)) 𝒱₀ (c : Thread nD τ) none) Set.univ (.op (.store a (Rect.unit off s.size inb) w Finset.univ hx hm) k) Q) := by
  unfold has owns
  iintro ⟨%f, %hf, H⟩ Hk
  iapply (wp_store_writes₀ 𝒱₀ (c : Thread nD τ) none Set.univ (m := a) (by rw [View.set_slice]; exact View.setOn_subset_set _ _)) $$ H
  iintro H
  iapply Hk
  iexists (a.view.writes (Elt F) f [⟨Rect.unit off s.size inb, w⟩]); isplitr; · ipureintro; exact View.read_writes_full _ _ _ _ _
  iexact H

/-- A load of slot `n mod 2` of a two-slot buffer. -/
theorem load_slot (a : Memref sig .tc .vmem S2x304x1024 .f32) (n : ℕ) {off : Fin 3 → ℕ} (ho : off = ![n % 2, 0, 0])
    {inb : ∀ x, off x + S1x304x1024.size x ≤ S2x304x1024.size x}
    {hl : a.view.LoadsAt (Rect.unit (s := S2x304x1024) off S1x304x1024.size inb).toLoadRect}
    {α : Type} {Q : α → sProp 𝕄} {k : ((Rect.unit (s := S2x304x1024) off S1x304x1024.size inb).shape.Idx → Elt F .f32) → Prog (TpuEff nD τ sig (Elt F) Λ₀ .tc) α} (X : Vec F S2x304x1024 .f32) :
    has c a X ⊢ iprop((has c a X -∗ wp frame (wpE (defs₀ (F := F)) 𝒱₀ (c : Thread nD τ) none) Set.univ (k (slot n X)) Q)
      -∗ wp frame (wpE (defs₀ (F := F)) 𝒱₀ (c : Thread nD τ) none) Set.univ (.op (.load a (Rect.unit (s := S2x304x1024) off S1x304x1024.size inb).toLoadRect hl) k) Q) := by
  subst ho
  unfold has owns
  iintro ⟨%f, %hf, H⟩ Hk
  iapply (wp_load 𝒱₀ (c : Thread nD τ) none Set.univ (m := a) (View.setOn_subset_set _ _)) $$ H
  iintro H
  rw [View.readAt_unit _ _ _ rfl (slot_inb n), hf]
  iapply Hk
  iexists f; isplitr; · ipureintro; exact hf
  iexact H

/-- A store of slot `n mod 2` of a two-slot buffer. -/
theorem store_slot (a : Memref sig .tc .vmem S2x304x1024 .f32) (n : ℕ) {off : Fin 3 → ℕ} (ho : off = ![n % 2, 0, 0])
    {inb : ∀ x, off x + S1x304x1024.size x ≤ S2x304x1024.size x}
    {w : (Rect.unit (s := S2x304x1024) off S1x304x1024.size inb).shape.Idx → Elt F .f32} {hx : (a.access (Rect.unit off S1x304x1024.size inb)).Stores Finset.univ}
    {hm : Finset.univ = Finset.univ ∨ ∀ x, (Rect.unit (s := S2x304x1024) off S1x304x1024.size inb).stride x = 1}
    {α : Type} {Q : α → sProp 𝕄} {k : PUnit → Prog (TpuEff nD τ sig (Elt F) Λ₀ .tc) α} (X : Vec F S2x304x1024 .f32) :
    has c a X ⊢ iprop((has c a (setSlot n X w) -∗ wp frame (wpE (defs₀ (F := F)) 𝒱₀ (c : Thread nD τ) none) Set.univ (k ⟨⟩) Q)
      -∗ wp frame (wpE (defs₀ (F := F)) 𝒱₀ (c : Thread nD τ) none) Set.univ (.op (.store a (Rect.unit (s := S2x304x1024) off S1x304x1024.size inb) w Finset.univ hx hm) k) Q) := by
  subst ho
  unfold has owns
  iintro ⟨%f, %hf, H⟩ Hk
  iapply (wp_store_writes₀ 𝒱₀ (c : Thread nD τ) none Set.univ (m := a) (by rw [View.set_slice]; exact View.setOn_subset_set _ _)) $$ H
  iintro H
  iapply Hk
  iexists (a.view.writes (Elt F) f [⟨Rect.unit (s := S2x304x1024) ![n % 2, 0, 0] S1x304x1024.size inb, w⟩]); isplitr; · ipureintro; rw [View.read_writes_cons_put _ _ _ _ _ rfl, View.writes_nil, hf]; rfl
  iexact H

end Steps

end Cert.KernelIdealProof

end
-- ==== Proof.KernelIdealBody.lean ====
/- The expert kernel's body on one device, by kind of grid point: what the point's loads, stores, signals and transfer do to
   the scratch buffers, from what they hold before the point. -/
module

public import proofs.«01_k».proof.Proof.KernelIdealSteps

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (c : Dev nD) (i : grid0.Coords)
  (a2 : Memref sig .tc .vmem S1x304x1 .i32) (h2 : a2.IsWhole) (a3 : Memref sig .tc .vmem S1x1x304 .i32) (h3 : a3.IsWhole)
  (a4 : Memref sig .tc .vmem S1x304x1 .f32) (h4 : a4.IsWhole) (a5 : Memref sig .tc .vmem S2048x1024 .f32) (h5 : a5.IsWhole)
  (a6 : Memref sig .tc .vmem S1x1024x1024 .f32) (h6 : a6.IsWhole) (a7 : Memref sig .tc .vmem S1x1024x1024 .f32) (h7 : a7.IsWhole)
  (a8 : Memref sig .tc .vmem S1024x1024 .f32) (h8 : a8.IsWhole)

/-- The body at the grid coordinates `i`, on staging buffers `a2 … a8` and the kernel's scratch buffers. -/
abbrev bodyOf : Prog (TpuEff nD τ sig (Elt F) Λ₀ .tc) PUnit :=
  cc0_body i a2 h2 a3 h3 a4 h4 a5 h5 a6 h6 a7 h7 a8 h8 tM (Memref.isWhole_whole _) aM (Memref.isWhole_whole _)
    pM (Memref.isWhole_whole _) rM (Memref.isWhole_whole _) cc0_scratch4 cc0_scratch5

/-- The staged inputs of a point. -/
def staged (x2 : Vec F S1x304x1 .i32) (x3 : Vec F S1x1x304 .i32) (x4 : Vec F S1x304x1 .f32) (x5 : Vec F S2048x1024 .f32)
    (x6 x7 : Vec F S1x1024x1024 .f32) : sProp 𝕄 :=
  iprop(has c a2 x2 ∗ has c a3 x3 ∗ has c a4 x4 ∗ has c a5 x5 ∗ has c a6 x6 ∗ has c a7 x7)

variable (x2 : Vec F S1x304x1 .i32) (x3 : Vec F S1x1x304 .i32) (x4 : Vec F S1x304x1 .f32) (x5 : Vec F S2048x1024 .f32)
  (x6 x7 : Vec F S1x1024x1024 .f32) (T A : Vec F S2x304x1024 .f32) (P : Vec F S2048x1024 .f32) (k : ℕ)

/-- A point past an expert's second hidden block, not the last: the hidden block's result is added to the expert's. -/
theorem body_plain (c1 : ¬ k0_cond1 i = 1#1) (c2 : ¬ k0_cond2 i = 1#1) (c3 : ¬ k0_cond3 i = 1#1) (c4 : ¬ k0_cond4 i = 1#1)
    (c5 : k0_cond5 i = 1#1) (c6 : ¬ k0_cond6 i = 1#1) (o3 : k0_off3 i = ![k % 2, 0, 0]) (o5 : k0_off5 i = ![k % 2, 0, 0])
    (Kt : PUnit → sProp 𝕄) :
    iprop(staged c a2 a3 a4 a5 a6 a7 x2 x3 x4 x5 x6 x7 ∗ scr c T A P
      ∗ ((staged c a2 a3 a4 a5 a6 a7 x2 x3 x4 x5 x6 x7 ∗ scr c T (setSlot k A (k0_pay3 (slot k T) x6 x7 (slot k A))) P) -∗ Kt ⟨⟩))
      ⊢ wp frame (wpE (defs₀ (F := F)) 𝒱₀ (c : Thread nD τ) none) Set.univ (bodyOf i a2 h2 a3 h3 a4 h4 a5 h5 a6 h6 a7 h7 a8 h8) Kt := by
  unfold bodyOf; simp only [cc0_body_eq_skeleton]; unfold cc0_body_skel
  simp only [k0_part1_eq_skeleton, k0_part2_eq_skeleton]; unfold k0_part1_skel k0_part2_skel
  simp only [dif_neg c1, dif_neg c2, dif_neg c3, dif_neg c4, dif_pos c5, dif_neg c6, semSignalWord, semWaitWord, Prog.lift, Prog.bind_op, Prog.bind_ret, Prog.pure_eq_ret, Prog.bind_assoc, wp_deviceId]
  unfold staged scr
  iintro ⟨⟨H2, H3, H4, H5, H6, H7⟩, ⟨HT, HA, HP⟩, Hk⟩
  iapply (load_slot c tM k o3 T) $$ HT; iintro HT
  iapply (load_full c a6 x6) $$ H6; iintro H6
  iapply (load_full c a7 x7) $$ H7; iintro H7
  iapply (load_slot c aM k o5 A) $$ HA; iintro HA
  iapply (load_slot c aM k o5 A) $$ HA; iintro HA
  iapply (store_slot c aM k o5 A) $$ HA; iintro HA
  rw [wp_ret]; imodintro
  iapply Hk
  isplitl [H2 H3 H4 H5 H6 H7]
  · isplitl [H2]; · iexact H2
    isplitl [H3]; · iexact H3
    isplitl [H4]; · iexact H4
    isplitl [H5]; · iexact H5
    isplitl [H6] <;> iassumption
  isplitl [HT]; · iexact HT
  isplitl [HA]; · iexact HA
  iexact HP

/-- A later expert's first point: the expert before is added to the sum, and the hidden block's result starts the expert's. -/
theorem body_scatter (c1 : ¬ k0_cond1 i = 1#1) (c2 : k0_cond2 i = 1#1) (c3 : ¬ k0_cond3 i = 1#1) (c4 : k0_cond4 i = 1#1) (c5 : ¬ k0_cond5 i = 1#1) (c6 : ¬ k0_cond6 i = 1#1)
    (o1 : k0_off1 i = ![(k + 1) % 2, 0, 0]) (o3 : k0_off3 i = ![k % 2, 0, 0]) (o4 : k0_off4 i = ![k % 2, 0, 0]) (Kt : PUnit → sProp 𝕄) :
    iprop(staged c a2 a3 a4 a5 a6 a7 x2 x3 x4 x5 x6 x7 ∗ scr c T A P
      ∗ ((staged c a2 a3 a4 a5 a6 a7 x2 x3 x4 x5 x6 x7 ∗ scr c T (setSlot k A (k0_pay2 (slot k T) x6 x7)) (k0_pay8 x3 P (slot (k + 1) A))) -∗ Kt ⟨⟩))
      ⊢ wp frame (wpE (defs₀ (F := F)) 𝒱₀ (c : Thread nD τ) none) Set.univ (bodyOf i a2 h2 a3 h3 a4 h4 a5 h5 a6 h6 a7 h7 a8 h8) Kt := by
  unfold bodyOf; simp only [cc0_body_eq_skeleton]; unfold cc0_body_skel
  simp only [k0_part1_eq_skeleton, k0_part2_eq_skeleton]; unfold k0_part1_skel k0_part2_skel
  simp only [dif_neg c1, dif_pos c2, dif_neg c3, dif_pos c4, dif_neg c5, dif_neg c6, semSignalWord, semWaitWord, Prog.lift, Prog.bind_op, Prog.bind_ret, Prog.pure_eq_ret, Prog.bind_assoc, wp_deviceId]
  unfold staged scr
  iintro ⟨⟨H2, H3, H4, H5, H6, H7⟩, ⟨HT, HA, HP⟩, Hk⟩
  iapply (load_full c a3 x3) $$ H3; iintro H3
  iapply (load_full c pM P) $$ HP; iintro HP
  iapply (load_slot c aM (k + 1) o1 A) $$ HA; iintro HA
  iapply (load_full c pM P) $$ HP; iintro HP
  iapply (store_full c pM P) $$ HP; iintro HP
  iapply (load_slot c tM k o3 T) $$ HT; iintro HT
  iapply (load_full c a6 x6) $$ H6; iintro H6
  iapply (load_full c a7 x7) $$ H7; iintro H7
  iapply (load_slot c aM k o4 A) $$ HA; iintro HA
  iapply (store_slot c aM k o4 A) $$ HA; iintro HA
  rw [wp_ret]; imodintro
  iapply Hk
  isplitl [H2 H3 H4 H5 H6 H7]
  · isplitl [H2]; · iexact H2
    isplitl [H3]; · iexact H3
    isplitl [H4]; · iexact H4
    isplitl [H5]; · iexact H5
    isplitl [H6] <;> iassumption
  isplitl [HT]; · iexact HT
  isplitl [HA]; · iexact HA
  iexact HP

/-- An expert's second point: the next expert's tokens are gathered, and the hidden block's result is added. -/
theorem body_gather (c1 : ¬ k0_cond1 i = 1#1) (c2 : ¬ k0_cond2 i = 1#1) (c3 : k0_cond3 i = 1#1) (c4 : ¬ k0_cond4 i = 1#1) (c5 : k0_cond5 i = 1#1) (c6 : ¬ k0_cond6 i = 1#1)
    (o2 : k0_off2 i = ![(k + 1) % 2, 0, 0]) (o3 : k0_off3 i = ![k % 2, 0, 0]) (o5 : k0_off5 i = ![k % 2, 0, 0]) (Kt : PUnit → sProp 𝕄) :
    iprop(staged c a2 a3 a4 a5 a6 a7 x2 x3 x4 x5 x6 x7 ∗ scr c T A P
      ∗ ((staged c a2 a3 a4 a5 a6 a7 x2 x3 x4 x5 x6 x7 ∗ scr c (setSlot (k + 1) T (k0_pay7 x2 x4 x5))
          (setSlot k A (k0_pay3 (slot k (setSlot (k + 1) T (k0_pay7 x2 x4 x5))) x6 x7 (slot k A))) P) -∗ Kt ⟨⟩))
      ⊢ wp frame (wpE (defs₀ (F := F)) 𝒱₀ (c : Thread nD τ) none) Set.univ (bodyOf i a2 h2 a3 h3 a4 h4 a5 h5 a6 h6 a7 h7 a8 h8) Kt := by
  unfold bodyOf; simp only [cc0_body_eq_skeleton]; unfold cc0_body_skel
  simp only [k0_part1_eq_skeleton, k0_part2_eq_skeleton]; unfold k0_part1_skel k0_part2_skel
  simp only [dif_neg c1, dif_neg c2, dif_pos c3, dif_neg c4, dif_pos c5, dif_neg c6, semSignalWord, semWaitWord, Prog.lift, Prog.bind_op, Prog.bind_ret, Prog.pure_eq_ret, Prog.bind_assoc, wp_deviceId]
  unfold staged scr
  iintro ⟨⟨H2, H3, H4, H5, H6, H7⟩, ⟨HT, HA, HP⟩, Hk⟩
  iapply (load_full c a2 x2) $$ H2; iintro H2
  iapply (load_full c a4 x4) $$ H4; iintro H4
  iapply (load_full c a5 x5) $$ H5; iintro H5
  iapply (load_slot c tM (k + 1) o2 T) $$ HT; iintro HT
  iapply (store_slot c tM (k + 1) o2 T) $$ HT; iintro HT
  iapply (load_slot c tM k o3 _) $$ HT; iintro HT
  iapply (load_full c a6 x6) $$ H6; iintro H6
  iapply (load_full c a7 x7) $$ H7; iintro H7
  iapply (load_slot c aM k o5 A) $$ HA; iintro HA
  iapply (load_slot c aM k o5 A) $$ HA; iintro HA
  iapply (store_slot c aM k o5 A) $$ HA; iintro HA
  rw [wp_ret]; imodintro
  iapply Hk
  isplitl [H2 H3 H4 H5 H6 H7]
  · isplitl [H2]; · iexact H2
    isplitl [H3]; · iexact H3
    isplitl [H4]; · iexact H4
    isplitl [H5]; · iexact H5
    isplitl [H6] <;> iassumption
  isplitl [HT]; · iexact HT
  isplitl [HA]; · iexact HA
  iexact HP

variable (K : Dev nD × Fin 3 → ℕ)

/-- The first point: the device tells its partner that its receive buffer may be written and waits to be told the same; the
    sum starts at zero, the first expert's tokens are gathered, and the first hidden block's result starts the expert's. -/
theorem body_first (c1 : k0_cond1 i = 1#1) (c2 : ¬ k0_cond2 i = 1#1) (c3 : ¬ k0_cond3 i = 1#1) (c4 : k0_cond4 i = 1#1) (c5 : ¬ k0_cond5 i = 1#1) (c6 : ¬ k0_cond6 i = 1#1)
    (o3 : k0_off3 i = ![0 % 2, 0, 0]) (o4 : k0_off4 i = ![0 % 2, 0, 0]) (W : Waits sig Unit) (Kt : PUnit → sProp 𝕄) :
    iprop(staged c a2 a3 a4 a5 a6 a7 x2 x3 x4 x5 x6 x7 ∗ scr c T A P
      ∗ (invs m K c ∗ levAts L lv) ∗ atPos ER (barCell c) 0 ∅ 0 ∗ reached ER (barCell (peer c)) 0 ∗ reached ER (dcell vR c) 0
      ∗ dutyTok ER (barCell (peer c)) 0 false ∗ cred (tallyAt (barCell c) () 1) ∗ (∃ f, rPts c f) ∗ owes (c : Thread nD τ) (O₀ c) W
      ∗ ((staged c a2 a3 a4 a5 a6 a7 x2 x3 x4 x5 x6 x7 ∗ scr c (setSlot 0 T (k0_pay7 x2 x4 x5))
          (setSlot 0 A (k0_pay2 (slot 0 (setSlot 0 T (k0_pay7 x2 x4 x5))) x6 x7)) k0_pay6
          ∗ reached ER (dcell vR (peer c)) 0 ∗ (∃ f, rPts (peer c) f) ∗ semVal (barCell c) 0 ∗ ∃ W, owes (c : Thread nD τ) (O₁ c) W) -∗ Kt ⟨⟩))
      ⊢ wp frame (wpE (defs₀ (F := F)) 𝒱₀ (c : Thread nD τ) none) Set.univ (bodyOf i a2 h2 a3 h3 a4 h4 a5 h5 a6 h6 a7 h7 a8 h8) Kt := by
  unfold bodyOf; simp only [cc0_body_eq_skeleton]; unfold cc0_body_skel
  simp only [k0_part1_eq_skeleton, k0_part2_eq_skeleton]; unfold k0_part1_skel k0_part2_skel
  simp only [dif_pos c1, dif_neg c2, dif_neg c3, dif_pos c4, dif_neg c5, dif_neg c6, semSignalWord, semWaitWord, Prog.lift, Prog.bind_op, Prog.bind_ret, Prog.pure_eq_ret, Prog.bind_assoc, wp_deviceId]
  unfold staged scr invs
  iintro ⟨⟨H2, H3, H4, H5, H6, H7⟩, ⟨HT, HA, HP⟩, ⟨⟨#HIb, #HIs, #HIv, #HIbP, #HIvP⟩, #Hlev⟩, HaB, #HrBP, #HrV, HtBP, HcB, HR, HO, Hk⟩
  have hd : (⟨k0_dev1 c, k0_dev1_lt i c c1⟩ : Dev nD) = peer c := Fin.ext (dev1_val c)
  simp only [hd]
  unfold O₀
  iapply (Rounds.wp_signal 𝒱₀ ER (sched m) (c : Thread nD τ) none (dst := (peer c : Thread nD τ)) (κ := K (peer c, 0))
      (d := false) (mem_duties m (peer c) 0) (cred_bar.trans (by decide)) () (O₁ c) rfl)
    $$ [HO HtBP HR]
  · isplitr; · iexact HIbP
    isplitl [HO]; · iexact HO
    isplitl [HtBP]; · iexact HtBP
    isplitl [HR]
    · rw [pay_bar]; unfold barPay; rw [peer_peer]
      isplitl [HR]; · iexact HR
      iexact HrV
    · iexact HrBP
  iintro HO
  iapply (Rounds.wp_wait_rest_token 𝒱₀ ER (sched m) (c : Thread nD τ) none (κ := K (c, 0))
      (wpE_semWait_eq 𝒱₀ (c : Thread nD τ) none Set.univ) (Set.mem_univ _) () (O := O₁ c) (W := W) (R := 0) (m := 0) (T := ∅)
      (by rw [show (sched (F := F) m).expect ((c : Thread nD τ), SemLoc.reg barS) 0 = credOf (csem 0) from expect_at m c 0, cred_bar]; decide)) $$ [HcB HO HaB]
  · isplitr; · iexact HIb
    isplitl [HcB]; · iexact HcB
    isplitl [HO]; · iexact HO
    isplitr; · iapply (mayWait_bar c); iexact Hlev
    iexact HaB
  iintro ⟨HO, HaB, -, Hpay⟩
  ihave Hb := (Entails.of_eq ((rest_at m c 0).trans (pay_bar m c false))) $$ Hpay
  unfold barPay
  icases Hb with ⟨HR, #HrVP⟩
  iapply (load_full c pM P) $$ HP; iintro HP
  iapply (store_full c pM P) $$ HP; iintro HP
  iapply (load_full c a2 x2) $$ H2; iintro H2
  iapply (load_full c a4 x4) $$ H4; iintro H4
  iapply (load_full c a5 x5) $$ H5; iintro H5
  iapply (load_slot c tM 0 rfl T) $$ HT; iintro HT
  iapply (store_slot c tM 0 rfl T) $$ HT; iintro HT
  iapply (load_slot c tM 0 o3 _) $$ HT; iintro HT
  iapply (load_full c a6 x6) $$ H6; iintro H6
  iapply (load_full c a7 x7) $$ H7; iintro H7
  iapply (load_slot c aM 0 o4 A) $$ HA; iintro HA
  iapply (store_slot c aM 0 o4 A) $$ HA; iintro HA
  imod (Rounds.cell_close ER (sched m) (Set.mem_univ (K (c, 0))) (fun h => h) (R := 0 + 1) (duties_later m (barCell c))) $$ [HaB] with HzB
  · isplitr; · iexact HIb
    iexact HaB
  rw [wp_ret]; imodintro
  iapply Hk
  isplitl [H2 H3 H4 H5 H6 H7]
  · isplitl [H2]; · iexact H2
    isplitl [H3]; · iexact H3
    isplitl [H4]; · iexact H4
    isplitl [H5]; · iexact H5
    isplitl [H6] <;> iassumption
  isplitl [HT HA HP]
  · isplitl [HT]; · iexact HT
    isplitl [HA] <;> iassumption
  isplitr; · iexact HrVP
  isplitl [HR]; · iexact HR
  isplitl [HzB]; · iexact HzB
  iexists (insert (SemLoc.reg barS, ()) W); iexact HO

omit [FloatOps F] in
/-- What the sum's buffer holds, as its elements. -/
theorem has_part (P : Vec F S2048x1024 .f32) : (has c pM P : sProp 𝕄) ⊣⊢ (((c : Thread nD τ).loc cc0_scratch2) ↦{fullShare} P) := by
  constructor
  · unfold has owns; iintro ⟨%f, %hf, H⟩
    obtain rfl : f = P := (View.read_whole _ _).symm.trans hf
    rw [View.set_whole]; iexact H
  · unfold has owns; iintro H
    iexists P; isplitr; · ipureintro; exact View.read_whole _ _
    rw [View.set_whole]; iexact H
omit [FloatOps F] in
/-- What the receive buffer holds, as its elements. -/
theorem has_recv (X : Vec F S1024x1024 .f32) : (has c rM X : sProp 𝕄) ⊣⊢ rPts c X := by
  unfold rPts
  constructor
  · unfold has owns; iintro ⟨%f, %hf, H⟩
    obtain rfl : f = X := (View.read_whole _ _).symm.trans hf
    iexact H
  · unfold has owns; iintro H
    iexists X; isplitr; · ipureintro; exact View.read_whole _ _
    iexact H

/-- The transfer of the sent rows to `n`, the partner. -/
theorem send_part (n : Dev nD) (hn : n = peer c) {hsc : (rM : Memref sig (Dev.tc n : Thread nD τ).2.kind .vmem S1024x1024 .f32).view.ref.isScScratch = false}
    {hsrc : (sentM c).view.WordExact} {hdst : (rM : Memref sig .tc .vmem S1024x1024 .f32).view.WordExact}
    {hsem : DmaTarget.Typed .vmem (.dma vR) (.remote (Dev.tc n : Thread nD τ) (rM : Memref sig .tc .vmem S1024x1024 .f32) (.dma sS) hsc)}
    {α : Type} {Q : α → sProp 𝕄} {k : PUnit → Prog (TpuEff nD τ sig (Elt F) Λ₀ .tc) α}
    (f : (cc0_scratch3 : Ref sig .tc).ty.Contents (Elt F)) (W : Waits sig Unit) :
    iprop(cellInv ER (sched m) (K (c, 1)) (dcell sS c) ∗ cellInv ER (sched m) (K (peer c, 2)) (dcell vR (peer c))
        ∗ sPts c (parts m c 8) ∗ rPts (peer c) f ∗ owes (c : Thread nD τ) (O₁ c) W
        ∗ dutyTok ER (dcell sS c) 0 false ∗ reached ER (dcell sS c) 0 ∗ dutyTok ER (dcell vR (peer c)) 0 false ∗ reached ER (dcell vR (peer c)) 0)
      ⊢ iprop(((cred (tallyAt (dcell sS c) () NT) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sentM c) (.remote (Dev.tc n : Thread nD τ) rM (.dma sS) hsc) (.dma vR) hsrc hdst hsem) k) Q) := by
  subst hn
  have hp : rPts (F := F) (peer c) ((rM : Memref sig .tc .vmem S1024x1024 .f32).view.write (Elt F) f ((sentM c).view.read (Elt F) (parts m c 8)) Finset.univ)
      = (sched (F := F) m).payload (dcell vR (peer c)) 0 false := by
    rw [pay_vR]; unfold recvd; rw [peer_peer]
    exact congrArg _ (View.write_whole_univ _ _ _)
  unfold sPts rPts
  exact Rounds.wp_send_pointsTo 𝒱₀ ER (sched m) (c : Thread nD τ) none (c' := (peer c : Thread nD τ)) (src := sentM c) (dst := rM) (sS := .dma sS) (sem := .dma vR) (κ₁ := K (c, 1)) (κ₂ := K (peer c, 2))
    (r₁ := 0) (r₂ := 0) (d₁ := false) (d₂ := false) (fd := f) (mem_duties m c 1) (mem_duties m (peer c) 2)
    () () NT rfl cred_sS cred_vR 0 (by unfold O₁; rw [zero_add]) (W := W)
    (by rw [pay_sS]; exact BI.Entails.refl _) (Entails.of_eq hp)

/-- A wait for the whole credit of DMA semaphore `k` of the three, owing nothing: it hands over the semaphore's payload. -/
theorem wait_dma (k : Fin 3) (q : DmaSem sig) (hk : csem k = .dma q) (N : ℕ) (hN : credOf (csem k) = N) (κ : ℕ) (W : Waits sig Unit)
    {s : Shape} {e : EltTy} {src dst : Memref sig .tc .vmem s e} {hsrc : src.view.WordExact} {hdst : dst.view.WordExact} (hd : dst.view.dmaCredit = N)
    {α : Type} {Q : α → sProp 𝕄} {kk : PUnit → Prog (TpuEff nD τ sig (Elt F) Λ₀ .tc) α} :
    iprop(cellInv ER (sched m) κ (dcell q c) ∗ cred (tallyAt (dcell q c) () N) ∗ owes (c : Thread nD τ) 0 W ∗ atPos ER (dcell q c) 0 ∅ 0)
      ⊢ iprop(((owes (c : Thread nD τ) 0 (insert (SemLoc.dma q, ()) W) ∗ atPos ER (dcell q c) (0 + 1) ∅ 0
            ∗ (sched (F := F) m).payload (dcell q c) 0 false) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  subst hd
  have he : (sched (F := F) m).expect (dcell q c) 0 = dst.view.dmaCredit := by
    have := expect_at m c k; rw [hN] at this; unfold kcell at this; rw [hk] at this; exact this
  have hr : bigSep ((sched (F := F) m).duties (dcell q c) 0 \ ∅) (fun d => (sched (F := F) m).payload (dcell q c) 0 d)
      = (sched (F := F) m).payload (dcell q c) 0 false := by
    have := rest_at m c k; unfold kcell at this; rw [hk] at this; exact this
  iintro ⟨#HI, Hc, HO, Hat⟩ Hk
  iapply (Rounds.wp_wait_rest_token 𝒱₀ ER (sched m) (c : Thread nD τ) none (κ := κ)
      (wpE_waitDma2_eq 𝒱₀ (c : Thread nD τ) none Set.univ) (Set.mem_univ _) () (O := 0) (W := W) (R := 0) (m := 0) (T := ∅)
      (by rw [Nat.zero_add, he])) $$ [Hc HO Hat]
  · isplitr; · iexact HI
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq hr); iexact Hpay

set_option maxHeartbeats 1000000 in
/-- The last point: the last hidden block's result is added, the last expert is added to the sum, the partner's rows are sent
    and the partner's transfer awaited, and the result is the kept rows plus the received ones. -/
theorem body_last (c1 : ¬ k0_cond1 i = 1#1) (c2 : ¬ k0_cond2 i = 1#1) (c3 : ¬ k0_cond3 i = 1#1) (c4 : ¬ k0_cond4 i = 1#1) (c5 : k0_cond5 i = 1#1) (c6 : k0_cond6 i = 1#1)
    (o3 : k0_off3 i = ![k % 2, 0, 0]) (o5 : k0_off5 i = ![k % 2, 0, 0])
    (hP : k0_pay8 x3 P (slot 1 (setSlot k A (k0_pay3 (slot k T) x6 x7 (slot k A)))) = parts m c 8)
    (W : Waits sig Unit) (y : Vec F S1024x1024 .f32) (Kt : PUnit → sProp 𝕄) :
    iprop(staged c a2 a3 a4 a5 a6 a7 x2 x3 x4 x5 x6 x7 ∗ has c a8 y ∗ scr c T A P
      ∗ (invs m K c ∗ levAts L lv) ∗ kept c ∗ reached ER (dcell vR (peer c)) 0 ∗ (∃ f, rPts (peer c) f) ∗ owes (c : Thread nD τ) (O₁ c) W
      ∗ ((staged c a2 a3 a4 a5 a6 a7 x2 x3 x4 x5 x6 x7 ∗ has c a8 (outv m c) ∗ scr c T (setSlot k A (k0_pay3 (slot k T) x6 x7 (slot k A))) (parts m c 8)
          ∗ rPts c (recvd m c) ∗ semVal (dcell sS c) 0 ∗ semVal (dcell vR c) 0 ∗ ∃ W, owes (c : Thread nD τ) 0 W) -∗ Kt ⟨⟩))
      ⊢ wp frame (wpE (defs₀ (F := F)) 𝒱₀ (c : Thread nD τ) none) Set.univ (bodyOf i a2 h2 a3 h3 a4 h4 a5 h5 a6 h6 a7 h7 a8 h8) Kt := by
  unfold bodyOf; simp only [cc0_body_eq_skeleton]; unfold cc0_body_skel
  simp only [k0_part1_eq_skeleton, k0_part2_eq_skeleton]; unfold k0_part1_skel k0_part2_skel
  simp only [dif_neg c1, dif_neg c2, dif_neg c3, dif_neg c4, dif_pos c5, dif_pos c6, semSignalWord, semWaitWord, Prog.lift, Prog.bind_op, Prog.bind_ret, Prog.pure_eq_ret, Prog.bind_assoc, wp_deviceId]
  unfold staged scr invs kept
  iintro ⟨⟨H2, H3, H4, H5, H6, H7⟩, H8, ⟨HT, HA, HP⟩, ⟨⟨#HIb, #HIs, #HIv, #HIbP, #HIvP⟩, #Hlev⟩, ⟨HaS, HaV, HtV, HtS, #HrS, HcV⟩, #HrVP, ⟨%fr, HR⟩, HO, Hk⟩
  have hd : (⟨k0_dev2 c, k0_dev2_lt i c c6⟩ : Dev nD) = peer c := Fin.ext (dev2_val c)
  iapply (load_slot c tM k o3 T) $$ HT; iintro HT
  iapply (load_full c a6 x6) $$ H6; iintro H6
  iapply (load_full c a7 x7) $$ H7; iintro H7
  iapply (load_slot c aM k o5 A) $$ HA; iintro HA
  iapply (load_slot c aM k o5 A) $$ HA; iintro HA
  iapply (store_slot c aM k o5 A) $$ HA; iintro HA
  iapply (load_full c a3 x3) $$ H3; iintro H3
  iapply (load_full c pM P) $$ HP; iintro HP
  iapply (load_slot c aM 1 rfl _) $$ HA; iintro HA
  iapply (load_full c pM P) $$ HP; iintro HP
  iapply (store_full c pM P) $$ HP; iintro HP
  ihave HP := (Entails.of_eq (show (has c pM (k0_pay5 x3 P (slot 1 (setSlot k A (k0_pay3 (slot k T) x6 x7 (slot k A))))) : sProp 𝕄)
    = has c pM (parts m c 8) from congrArg _ hP)) $$ HP
  ihave HP := (has_part c (parts m c 8)).1 $$ HP
  ihave HP := (p_split c (parts m c 8)).1 $$ HP
  icases HP with ⟨HPs, HPk⟩
  iapply (send_part m c K _ hd fr W) $$ [HPs HR HO HtS HtV]
  · isplitr; · iexact HIs
    isplitr; · iexact HIvP
    isplitl [HPs]; · iexact HPs
    isplitl [HR]; · iexact HR
    isplitl [HO]; · iexact HO
    isplitl [HtS]; · iexact HtS
    isplitr; · iexact HrS
    isplitl [HtV]; · iexact HtV
    iexact HrVP
  iintro ⟨HcS, HO⟩
  iapply (wait_dma m c 1 sS rfl NT cred_sS (K (c, 1)) _ (dst := sentM c) rfl) $$ [HcS HO HaS]
  · isplitr; · iexact HIs
    isplitl [HcS]; · iexact HcS
    isplitl [HO] <;> iassumption
  iintro ⟨HO, HaS, HPs⟩
  iapply (wait_dma m c 2 vR rfl NT cred_vR (K (c, 2)) _ (dst := rM) rfl) $$ [HcV HO HaV]
  · isplitr; · iexact HIv
    isplitl [HcV]; · iexact HcV
    isplitl [HO] <;> iassumption
  iintro ⟨HO, HaV, HR⟩
  ihave HPs := (Entails.of_eq (pay_sS m c false)) $$ HPs
  ihave HR := (Entails.of_eq (pay_vR m c false)) $$ HR
  ihave HP := (p_split c (parts m c 8)).2 $$ [HPs HPk]
  · isplitl [HPs] <;> iassumption
  ihave HP := (has_part c (parts m c 8)).2 $$ HP
  ihave HR := (has_recv c (recvd m c)).2 $$ HR
  iapply (load_rect c pM (keptRect c) (parts m c 8)) $$ HP; iintro HP
  iapply (load_full c rM (recvd m c)) $$ HR; iintro HR
  iapply (load_full c a8 y) $$ H8; iintro H8
  iapply (store_full c a8 y) $$ H8; iintro H8
  ihave HR := (has_recv c (recvd m c)).1 $$ HR
  imod (Rounds.cell_close ER (sched m) (Set.mem_univ (K (c, 1))) (fun h => h) (R := 0 + 1) (duties_later m (dcell sS c))) $$ [HaS] with HzS
  · isplitr; · iexact HIs
    iexact HaS
  imod (Rounds.cell_close ER (sched m) (Set.mem_univ (K (c, 2))) (fun h => h) (R := 0 + 1) (duties_later m (dcell vR c))) $$ [HaV] with HzV
  · isplitr; · iexact HIv
    iexact HaV
  rw [wp_ret]; imodintro
  iapply Hk
  isplitl [H2 H3 H4 H5 H6 H7]
  · isplitl [H2]; · iexact H2
    isplitl [H3]; · iexact H3
    isplitl [H4]; · iexact H4
    isplitl [H5]; · iexact H5
    isplitl [H6] <;> iassumption
  isplitl [H8]; · iexact H8
  isplitl [HT HA HP]
  · isplitl [HT]; · iexact HT
    isplitl [HA] <;> iassumption
  isplitl [HR]; · iexact HR
  isplitl [HzS]; · iexact HzS
  isplitl [HzV]; · iexact HzV
  iexists (insert (SemLoc.dma vR, ()) (insert (SemLoc.dma sS, ()) W)); iexact HO

end Body

end Cert.KernelIdealProof

end
-- ==== Proof.KernelIdealObligation.lean ====
/- The expert kernel's obligation at every grid point: from what a device holds before the point to what it holds after. -/
module

public import proofs.«01_k».proof.Proof.KernelIdealBody

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_W (Φ : Fin cfg0.W → sProp 𝕄) : bigSep Finset.univ Φ
    = iprop(Φ (0 : Fin 7) ∗ Φ (1 : Fin 7) ∗ Φ (2 : Fin 7) ∗ Φ (3 : Fin 7) ∗ Φ (4 : Fin 7) ∗ Φ (5 : Fin 7) ∗ Φ (6 : Fin 7)) := bigSep_W0 Φ

/-! ## An input window's buffer holds its block at every point -/

section Before
variable (c : Dev nD) (t : Fin cfg0.N)
theorem before_0 (d) : (dats m 0 c).before (0 : Fin 7) t d = iblk m c 0 t :=
  ((dats m 0 c).before_in_eq_fetched (0 : Fin 7) rfl (fun _ => rfl) (fun _ _ _ => rfl) (fun t => rfl) t d).trans rfl
theorem before_1 (d) : (dats m 0 c).before (1 : Fin 7) t d = iblk m c 1 t :=
  ((dats m 0 c).before_in_eq_fetched (1 : Fin 7) rfl (fun _ => rfl) (fun _ _ _ => rfl) (fun t => rfl) t d).trans rfl
theorem before_2 (d) : (dats m 0 c).before (2 : Fin 7) t d = iblk m c 2 t :=
  ((dats m 0 c).before_in_eq_fetched (2 : Fin 7) rfl (fun _ => rfl) (fun _ _ _ => rfl) (fun t => rfl) t d).trans rfl
theorem before_3 (d) : (dats m 0 c).before (3 : Fin 7) t d = iblk m c 3 t :=
  ((dats m 0 c).before_in_eq_fetched (3 : Fin 7) rfl (fun _ => rfl) (fun _ _ _ => rfl) (fun t => rfl) t d).trans rfl
theorem before_4 (d) : (dats m 0 c).before (4 : Fin 7) t d = iblk m c 4 t :=
  ((dats m 0 c).before_in_eq_fetched (4 : Fin 7) rfl (fun _ => rfl) (fun _ _ _ => rfl) (fun t => rfl) t d).trans rfl
theorem before_5 (d) : (dats m 0 c).before (5 : Fin 7) t d = iblk m c 5 t :=
  ((dats m 0 c).before_in_eq_fetched (5 : Fin 7) rfl (fun _ => rfl) (fun _ _ _ => rfl) (fun t => rfl) t d).trans rfl
end Before

/-! ## The steps of the contents -/

/-- After the first point. -/
theorem after_first (c : Dev nD) (T A : Vec F S2x304x1024 .f32) :
    After m c 0 (setSlot 0 T (k0_pay7 (iblk m c 0 (pt 0)) (iblk m c 2 (pt 0)) (iblk m c 3 (pt 0))))
      (setSlot 0 A (k0_pay2 (slot 0 (setSlot 0 T (k0_pay7 (iblk m c 0 (pt 0)) (iblk m c 2 (pt 0)) (iblk m c 3 (pt 0))))) (iblk m c 4 (pt 0)) (iblk m c 5 (pt 0)))) k0_pay6 where
  tok := slot_set_same _ _ rfl _ _
  next h := absurd h (by decide)
  acc := by rw [slot_set_same 0 _ rfl, slot_set_same 0 _ rfl]; rfl
  sum := rfl

/-- A later expert's first point. -/
theorem after_scatter (c : Dev nD) (s e : ℕ) (hs : s = 4 * e + 3) (he : e < 7) (T A : Vec F S2x304x1024 .f32) (P : Vec F S2048x1024 .f32) (h : After m c s T A P) :
    After m c (s + 1) T (setSlot (e + 1) A (k0_pay2 (slot (e + 1) T) (iblk m c 4 (pt (s + 1))) (iblk m c 5 (pt (s + 1)))))
      (k0_pay8 (iblk m c 1 (pt (s + 1))) P (slot (e + 1 + 1) A)) := by
  have d0 : s / 4 = e := by omega
  have r0 : s % 4 = 3 := by omega
  have d1 : (s + 1) / 4 = e + 1 := by omega
  have r1 : (s + 1) % 4 = 0 := by omega
  have p1 : s + 1 = 4 * (e + 1) := by omega
  obtain ⟨h1, h2, h3, h4⟩ := h
  rw [d0, r0] at *
  have hT := h2 (by decide) he
  refine ⟨by rw [d1]; exact hT, fun hh => absurd hh (by rw [r1]; decide), ?_, ?_⟩
  · rw [d1, r1, slot_set_same _ _ rfl, hT, p1]; rfl
  · rw [d1, slot_mod e _ (by omega), h3, h4, p1]
    show _ = k0_pay8 (iblk m c 1 (pt (sp e))) (parts m c e) (accum m c e 3)
    rw [show sp e = 4 * (e + 1) from if_neg (by omega)]

/-- An expert's second point. -/
theorem after_gather (c : Dev nD) (s e : ℕ) (hs : s = 4 * e) (he : e < 7) (T A : Vec F S2x304x1024 .f32) (P : Vec F S2048x1024 .f32) (h : After m c s T A P)
    (T' : Vec F S2x304x1024 .f32) (hT' : T' = setSlot (e + 1) T (k0_pay7 (iblk m c 0 (pt (s + 1))) (iblk m c 2 (pt (s + 1))) (iblk m c 3 (pt (s + 1))))) :
    After m c (s + 1) T' (setSlot e A (k0_pay3 (slot e T') (iblk m c 4 (pt (s + 1))) (iblk m c 5 (pt (s + 1))) (slot e A))) P := by
  have d0 : s / 4 = e := by omega
  have r0 : s % 4 = 0 := by omega
  have d1 : (s + 1) / 4 = e := by omega
  have r1 : (s + 1) % 4 = 1 := by omega
  obtain ⟨h1, h2, h3, h4⟩ := h
  rw [d0] at h1 h3 h4; rw [r0] at h3
  have hT : slot e T' = gath m c e := by rw [hT', slot_set_other _ _ (by omega), h1]
  refine ⟨by rw [d1]; exact hT, fun _ _ => ?_, ?_, by rw [d1]; exact h4⟩
  · rw [d1, hT', slot_set_same _ _ rfl, hs]; rfl
  · rw [d1, r1, slot_set_same _ _ rfl, hT, h3, hs]; rfl

/-- Any other point past an expert's first. -/
theorem after_plain (c : Dev nD) (s e f : ℕ) (hs : s = 4 * e + f) (hf : f < 3) (hg : f = 0 → ¬ e < 7) (T A : Vec F S2x304x1024 .f32) (P : Vec F S2048x1024 .f32) (h : After m c s T A P) :
    After m c (s + 1) T (setSlot e A (k0_pay3 (slot e T) (iblk m c 4 (pt (s + 1))) (iblk m c 5 (pt (s + 1))) (slot e A))) P := by
  have d0 : s / 4 = e := by omega
  have r0 : s % 4 = f := by omega
  have d1 : (s + 1) / 4 = e := by omega
  have r1 : (s + 1) % 4 = f + 1 := by omega
  obtain ⟨h1, h2, h3, h4⟩ := h
  rw [d0] at h1 h2 h3 h4; rw [r0] at h2 h3
  refine ⟨by rw [d1]; exact h1, fun _ => ?_, ?_, by rw [d1]; exact h4⟩
  · rw [d1]; intro he; exact h2 (by by_contra hn; exact hg (by omega) he) he
  · rw [d1, r1, slot_set_same _ _ rfl, h1, h3, hs]; rfl

/-- At the last point the sum is completed. -/
theorem last_sum (c : Dev nD) (T A : Vec F S2x304x1024 .f32) (P : Vec F S2048x1024 .f32) (h : After m c 30 T A P) :
    k0_pay8 (iblk m c 1 (pt 31)) P (slot 1 (setSlot 7 A (k0_pay3 (slot 7 T) (iblk m c 4 (pt 31)) (iblk m c 5 (pt 31)) (slot 7 A)))) = parts m c 8 := by
  obtain ⟨h1, h2, h3, h4⟩ := h
  rw [slot_set_same 7 1 rfl, show slot 7 T = gath m c 7 from h1, show slot 7 A = accum m c 7 2 from h3, show P = parts m c 7 from h4]
  rfl

/-! ## The obligation -/

/-- The result's buffer at a point before the last is handed back as found. -/
theorem leaves_idle (c : Dev nD) (t : Fin cfg0.N) (h : t.val ≠ 31) :
    (dats m 0 c).leavesExact (6 : Fin 7) t = iprop(∃ d, has c (st0_6 t) ((dats m 0 c).before (6 : Fin 7) t d)) :=
  (dats m 0 c).leavesExact_idle (6 : Fin 7) t
    (show (!(k0_cond6 (grid0.coords t) == 1#1)) = true by
      rw [Bool.not_eq_true', beq_eq_false_iff_ne]; exact fun hc => h ((cond6_iff t).mp hc))
    (by rw [Bool.eq_false_iff]; exact fun hf => h (by have := (flush0_6 t).mp hf; have := t_lt t; omega))
/-- At the last point it is left at the kernel's result. -/
theorem leaves_last (c : Dev nD) (t : Fin cfg0.N) (h : t.val = 31) :
    (dats m 0 c).leavesExact (6 : Fin 7) t = (has c (st0_6 t) (outv m c) : sProp 𝕄) := by
  have hi : cfg0.idle (6 : Fin 7) (cfg0.grid.coords t) = false := by
    show (!(k0_cond6 (grid0.coords t) == 1#1)) = false
    rw [(cond6_iff t).mpr h]; rfl
  unfold Dat.leavesExact; rw [hi]; rfl

theorem owed_at (c : Dev nD) (t : Fin (cfg0.N + 1)) : (dats m 0 c).owed t = owedAt c t.val := rfl

/-- What a device owes at a point, as `owes` alone, both ways. -/
theorem owesAt_elim (c : Dev nD) (t : Fin (cfg0.N + 1)) : (dats m 0 c).owesAt () t ⊢ (iprop(∃ W, owes (c : Thread nD τ) (owedAt c t.val) W) : sProp 𝕄) := by
  unfold Dat.owesAt Pipeline.owesWithin
  iintro ⟨%W, -, HO⟩; iexists W; iexact HO
theorem owesAt_intro (c : Dev nD) (t : Fin (cfg0.N + 1)) : (iprop(∃ W, owes (c : Thread nD τ) (owedAt c t.val) W) : sProp 𝕄) ⊢ (dats m 0 c).owesAt () t := by
  unfold Dat.owesAt Pipeline.owesWithin
  iintro ⟨%W, HO⟩; iexists W
  isplitr; · ipureintro; exact fun _ _ => Or.inl trivial
  iexact HO

/-- What a point starts from and what it leaves, in the staging buffers' own terms. -/
def pointPre (c : Dev nD) (t : Fin cfg0.N) : sProp 𝕄 :=
  iprop(inv m c t.val ∗ (∃ W, owes (c : Thread nD τ) (owedAt c t.val) W)
    ∗ staged c (st0_0 t) (st0_1 t) (st0_2 t) (st0_3 t) (st0_4 t) (st0_5 t) (iblk m c 0 t) (iblk m c 1 t) (iblk m c 2 t) (iblk m c 3 t) (iblk m c 4 t) (iblk m c 5 t) ∗ ∃ d, has c (st0_6 t) ((dats m 0 c).before (6 : Fin 7) t d))
def pointPost (c : Dev nD) (t : Fin cfg0.N) : sProp 𝕄 :=
  iprop(inv m c (t.val + 1) ∗ (∃ W, owes (c : Thread nD τ) (owedAt c (t.val + 1)) W)
    ∗ staged c (st0_0 t) (st0_1 t) (st0_2 t) (st0_3 t) (st0_4 t) (st0_5 t) (iblk m c 0 t) (iblk m c 1 t) (iblk m c 2 t) (iblk m c 3 t) (iblk m c 4 t) (iblk m c 5 t) ∗ (dats m 0 c).leavesExact (6 : Fin 7) t)

theorem owedAt_mid (c : Dev nD) (n : ℕ) (h0 : n ≠ 0) (h : n < 32) : owedAt c n = O₁ c := by
  unfold owedAt; rw [if_neg h0, if_pos h]

theorem inv_succ (c : Dev nD) (s : ℕ) (h : s + 1 < 32) : inv m c (s + 1) = iprop(mid m c ∗ ∃ T A P, ⌜After m c s T A P⌝ ∗ scr c T A P) := if_pos h
theorem inv_last (c : Dev nD) : inv m c (31 + 1) = iprop(ended c ∗ anyScr c) := rfl

/-- The first point. -/
theorem point_first (c : Dev nD) (t : Fin cfg0.N) (h : t.val = 0) :
    pointPre m c t ⊢ wp frame (wpE (defs₀ (F := F)) 𝒱₀ (c : Thread nD τ) none) Set.univ (bodyAt0 t) (fun _ => pointPost m c t) := by
  unfold pointPre pointPost
  rw [h, leaves_idle m c t (by omega), owedAt_mid c (0 + 1) (by decide) (by decide), inv_succ m c 0 (by decide), show owedAt c 0 = O₀ c from rfl,
    show inv m c 0 = iprop(start m c ∗ anyScr c) from rfl]
  unfold start anyScr mid
  have ht : t = pt 0 := Fin.ext h
  have c3 := off3_eq t; rw [h] at c3
  have c4 := off4_eq t ((cond4_iff t).mpr (by rw [h])); rw [h] at c4
  iintro ⟨⟨⟨⟨%K, #HI, #Hlev⟩, Hk, HaB, #HrB, #HrV, HtB, HcB⟩, ⟨%T, %A, %P, Hs⟩, HR⟩, ⟨%W, HO⟩, Hst, H6⟩
  iapply (body_first m c (grid0.coords t) (st0_0 t) _ (st0_1 t) _ (st0_2 t) _ (st0_3 t) _ (st0_4 t) _ (st0_5 t) _ (st0_6 t) _ _ _ _ _ _ _ T A P K
    ((cond1_iff t).mpr h) (fun hc => ((cond2_iff t).mp hc).2 h) (fun hc => by have := ((cond3_iff t).mp hc).1; omega) ((cond4_iff t).mpr (by omega))
    (fun hc => (cond5_iff t).mp hc (by omega)) (fun hc => by have := (cond6_iff t).mp hc; omega) c3 c4 W)
  isplitl [Hst]; · iexact Hst
  isplitl [Hs]; · iexact Hs
  isplitr
  · isplitr; · iexact HI
    iexact Hlev
  isplitl [HaB]; · iexact HaB
  isplitr; · iexact HrB
  isplitr; · iexact HrV
  isplitl [HtB]; · iexact HtB
  isplitl [HcB]; · iexact HcB
  isplitl [HR]; · iexact HR
  isplitl [HO]; · iexact HO
  iintro ⟨Hst, Hs, #HrVP, HR, HzB, HO⟩
  isplitl [Hk Hs HR HzB]
  · isplitl [Hk HR HzB]
    · isplitr
      · iexists K; isplitr; · iexact HI
        iexact Hlev
      isplitl [Hk]; · iexact Hk
      isplitr; · iexact HrVP
      isplitl [HR]; · iexact HR
      iexact HzB
    · iexists _, _, _
      isplitr; swap; · iexact Hs
      ipureintro; rw [ht]; exact after_first m c T A
  isplitl [HO]; · iexact HO
  isplitl [Hst]; · iexact Hst
  iexact H6

/-- A point between: what it does to the scratch buffers is all it does. -/
theorem point_mid (c : Dev nD) (t : Fin cfg0.N) (s : ℕ) (h : t.val = s + 1) (hs : s < 30)
    (hb : ∀ (T A : Vec F S2x304x1024 .f32) (P : Vec F S2048x1024 .f32), After m c s T A P → ∀ Kt : PUnit → sProp 𝕄,
      iprop(staged c (st0_0 t) (st0_1 t) (st0_2 t) (st0_3 t) (st0_4 t) (st0_5 t) (iblk m c 0 t) (iblk m c 1 t) (iblk m c 2 t) (iblk m c 3 t) (iblk m c 4 t) (iblk m c 5 t) ∗ scr c T A P
        ∗ ((staged c (st0_0 t) (st0_1 t) (st0_2 t) (st0_3 t) (st0_4 t) (st0_5 t) (iblk m c 0 t) (iblk m c 1 t) (iblk m c 2 t) (iblk m c 3 t) (iblk m c 4 t) (iblk m c 5 t) ∗ ∃ T A P, ⌜After m c (s + 1) T A P⌝ ∗ scr c T A P) -∗ Kt ⟨⟩))
      ⊢ wp frame (wpE (defs₀ (F := F)) 𝒱₀ (c : Thread nD τ) none) Set.univ (bodyAt0 t) Kt) :
    pointPre m c t ⊢ wp frame (wpE (defs₀ (F := F)) 𝒱₀ (c : Thread nD τ) none) Set.univ (bodyAt0 t) (fun _ => pointPost m c t) := by
  unfold pointPre pointPost
  rw [h, leaves_idle m c t (by omega), owedAt_mid c (s + 1) (by omega) (by omega), owedAt_mid c (s + 1 + 1) (by omega) (by omega), inv_succ m c s (by omega),
    inv_succ m c (s + 1) (by omega)]
  iintro ⟨⟨Hm, %T, %A, %P, %hA, Hs⟩, HO, Hst, H6⟩
  iapply (hb T A P hA)
  isplitl [Hst]; · iexact Hst
  isplitl [Hs]; · iexact Hs
  iintro ⟨Hst, Hs⟩
  isplitl [Hm Hs]
  · isplitl [Hm]; · iexact Hm
    iexact Hs
  isplitl [HO]; · iexact HO
  isplitl [Hst]; · iexact Hst
  iexact H6

/-- Every point between. -/
theorem point_between (c : Dev nD) (t : Fin cfg0.N) (s : ℕ) (h : t.val = s + 1) (hs : s < 30) :
    pointPre m c t ⊢ wp frame (wpE (defs₀ (F := F)) 𝒱₀ (c : Thread nD τ) none) Set.univ (bodyAt0 t) (fun _ => pointPost m c t) := by
  have ht : pt (s + 1) = t := by rw [← h]; exact pt_self t
  have n1 : ¬ k0_cond1 (grid0.coords t) = 1#1 := fun hc => by have := (cond1_iff t).mp hc; omega
  have n6 : ¬ k0_cond6 (grid0.coords t) = 1#1 := fun hc => by have := (cond6_iff t).mp hc; omega
  refine point_mid m c t s h hs fun T A P hA Kt => ?_
  by_cases hf0 : (s + 1) % 4 = 0
  · obtain ⟨e, he⟩ : ∃ e, s = 4 * e + 3 := ⟨s / 4, by omega⟩
    have c2 := (cond2_iff t).mpr ⟨by omega, by omega⟩
    have c4 := (cond4_iff t).mpr (by omega)
    have o1 := off1_eq t c2
    have o3 := off3_eq t
    have o4 := off4_eq t c4
    rw [show t.val / 4 = e + 1 by omega] at o1 o3 o4
    have hN := after_scatter m c s e he (by omega) T A P hA
    rw [ht] at hN
    iintro ⟨Hst, Hs, Hk⟩
    iapply (body_scatter c (grid0.coords t) (st0_0 t) _ (st0_1 t) _ (st0_2 t) _ (st0_3 t) _ (st0_4 t) _ (st0_5 t) _ (st0_6 t) _ _ _ _ _ _ _ T A P (e + 1)
      n1 c2 (fun hc => by have := ((cond3_iff t).mp hc).1; omega) c4 (fun hc => (cond5_iff t).mp hc (by omega)) n6 o1 o3 o4)
    isplitl [Hst]; · iexact Hst
    isplitl [Hs]; · iexact Hs
    iintro ⟨Hst, Hs⟩
    iapply Hk
    isplitl [Hst]; · iexact Hst
    iexists _, _, _; isplitr; swap; · iexact Hs
    ipureintro; exact hN
  by_cases hf1 : (s + 1) % 4 = 1 ∧ s < 28
  · obtain ⟨e, he⟩ : ∃ e, s = 4 * e := ⟨s / 4, by omega⟩
    have c3 := (cond3_iff t).mpr ⟨by omega, by omega⟩
    have c5 := (cond5_iff t).mpr (by omega)
    have o2 := off2_eq t c3
    have o3 := off3_eq t
    have o5 := off5_eq t c5
    rw [show t.val / 4 = e by omega] at o2 o3 o5
    have hN := after_gather m c s e he (by omega) T A P hA _ rfl
    rw [ht] at hN
    iintro ⟨Hst, Hs, Hk⟩
    iapply (body_gather c (grid0.coords t) (st0_0 t) _ (st0_1 t) _ (st0_2 t) _ (st0_3 t) _ (st0_4 t) _ (st0_5 t) _ (st0_6 t) _ _ _ _ _ _ _ T A P e
      n1 (fun hc => by have := ((cond2_iff t).mp hc).1; omega) c3 (fun hc => by have := (cond4_iff t).mp hc; omega) c5 n6 o2 o3 o5)
    isplitl [Hst]; · iexact Hst
    isplitl [Hs]; · iexact Hs
    iintro ⟨Hst, Hs⟩
    iapply Hk
    isplitl [Hst]; · iexact Hst
    iexists _, _, _; isplitr; swap; · iexact Hs
    ipureintro; exact hN
  · obtain ⟨e, f, he, hf⟩ : ∃ e f, s = 4 * e + f ∧ f < 4 := ⟨s / 4, s % 4, by omega, by omega⟩
    have c5 := (cond5_iff t).mpr (by omega)
    have o3 := off3_eq t
    have o5 := off5_eq t c5
    rw [show t.val / 4 = e by omega] at o3 o5
    have hN := after_plain m c s e f he (by omega) (by omega) T A P hA
    rw [ht] at hN
    iintro ⟨Hst, Hs, Hk⟩
    iapply (body_plain c (grid0.coords t) (st0_0 t) _ (st0_1 t) _ (st0_2 t) _ (st0_3 t) _ (st0_4 t) _ (st0_5 t) _ (st0_6 t) _ _ _ _ _ _ _ T A P e
      n1 (fun hc => by have := ((cond2_iff t).mp hc).1; omega) (fun hc => by have := (cond3_iff t).mp hc; omega) (fun hc => by have := (cond4_iff t).mp hc; omega) c5 n6 o3 o5)
    isplitl [Hst]; · iexact Hst
    isplitl [Hs]; · iexact Hs
    iintro ⟨Hst, Hs⟩
    iapply Hk
    isplitl [Hst]; · iexact Hst
    iexists _, _, _; isplitr; swap; · iexact Hs
    ipureintro; exact hN

/-- The last point. -/
theorem point_last (c : Dev nD) (t : Fin cfg0.N) (h : t.val = 30 + 1) :
    pointPre m c t ⊢ wp frame (wpE (defs₀ (F := F)) 𝒱₀ (c : Thread nD τ) none) Set.univ (bodyAt0 t) (fun _ => pointPost m c t) := by
  unfold pointPre pointPost
  rw [h, leaves_last m c t h, owedAt_mid c (30 + 1) (by decide) (by decide), inv_succ m c 30 (by decide), show owedAt c (30 + 1 + 1) = 0 from rfl,
    inv_last]
  unfold mid ended anyScr
  have ht : pt 31 = t := by rw [← pt_self t, h]
  have c5 := (cond5_iff t).mpr (by omega)
  have o3 := off3_eq t
  have o5 := off5_eq t c5
  rw [show t.val / 4 = 7 by omega] at o3 o5
  iintro ⟨⟨⟨⟨%K, #HI, #Hlev⟩, Hk, #HrVP, HR, HzB⟩, %T, %A, %P, %hA, Hs⟩, ⟨%W, HO⟩, Hst, %d, H6⟩
  have hN := last_sum m c T A P hA
  rw [ht] at hN
  iapply (body_last m c (grid0.coords t) (st0_0 t) _ (st0_1 t) _ (st0_2 t) _ (st0_3 t) _ (st0_4 t) _ (st0_5 t) _ (st0_6 t) _ _ _ _ _ _ _ T A P 7 K
    (fun hc => by have := (cond1_iff t).mp hc; omega) (fun hc => by have := ((cond2_iff t).mp hc).1; omega) (fun hc => by have := (cond3_iff t).mp hc; omega)
    (fun hc => by have := (cond4_iff t).mp hc; omega) c5 ((cond6_iff t).mpr h) o3 o5 hN W _)
  isplitl [Hst]; · iexact Hst
  isplitl [H6]; · iexact H6
  isplitl [Hs]; · iexact Hs
  isplitr
  · isplitr; · iexact HI
    iexact Hlev
  isplitl [Hk]; · iexact Hk
  isplitr; · iexact HrVP
  isplitl [HR]; · iexact HR
  isplitl [HO]; · iexact HO
  iintro ⟨Hst, H6, Hs, HR, HzS, HzV, HO⟩
  isplitl [HzB HzS HzV Hs HR]
  · isplitl [HzB HzS HzV]
    · isplitl [HzB]; · iexact HzB
      isplitl [HzS] <;> iassumption
    isplitl [Hs]
    · iexists _, _, _; iexact Hs
    iexists _; iexact HR
  isplitl [HO]; · iexact HO
  isplitl [Hst]; · iexact Hst
  iexact H6

/-- Every point. -/
theorem point (c : Dev nD) (t : Fin cfg0.N) :
    pointPre m c t ⊢ wp frame (wpE (defs₀ (F := F)) 𝒱₀ (c : Thread nD τ) none) Set.univ (bodyAt0 t) (fun _ => pointPost m c t) := by
  have hl := t_lt t
  rcases Nat.eq_zero_or_pos t.val with h | h
  · exact point_first m c t h
  obtain ⟨s, hs⟩ : ∃ s, t.val = s + 1 := ⟨t.val - 1, by omega⟩
  by_cases h30 : s = 30
  · exact point_last m c t (by omega)
  · exact point_between m c t s hs (by omega)

set_option maxRecDepth 4000 in
/-- The pipeline's obligation. -/
theorem body_obligation (c : Dev nD) : BodyObligation (dats (F := F) m 0 c) (defs₀ (F := F)) 𝒱₀ () Set.univ := fun t => by
  rw [bigSep_W, bigSep_W]
  show iprop(inv m c t.val ∗ (dats m 0 c).owesAt () t.castSucc
      ∗ (∃ d, has c (st0_0 t) ((dats m 0 c).before (0 : Fin 7) t d)) ∗ (∃ d, has c (st0_1 t) ((dats m 0 c).before (1 : Fin 7) t d))
      ∗ (∃ d, has c (st0_2 t) ((dats m 0 c).before (2 : Fin 7) t d)) ∗ (∃ d, has c (st0_3 t) ((dats m 0 c).before (3 : Fin 7) t d))
      ∗ (∃ d, has c (st0_4 t) ((dats m 0 c).before (4 : Fin 7) t d)) ∗ (∃ d, has c (st0_5 t) ((dats m 0 c).before (5 : Fin 7) t d))
      ∗ (∃ d, has c (st0_6 t) ((dats m 0 c).before (6 : Fin 7) t d)))
    ⊢ wp frame (wpE (defs₀ (F := F)) 𝒱₀ (c : Thread nD τ) none) Set.univ (bodyAt0 t)
      (fun _ => iprop(inv m c (t.val + 1) ∗ (dats m 0 c).owesAt () t.succ
        ∗ has c (st0_0 t) (iblk m c 0 t) ∗ has c (st0_1 t) (iblk m c 1 t) ∗ has c (st0_2 t) (iblk m c 2 t) ∗ has c (st0_3 t) (iblk m c 3 t)
        ∗ has c (st0_4 t) (iblk m c 4 t) ∗ has c (st0_5 t) (iblk m c 5 t) ∗ (dats m 0 c).leavesExact (6 : Fin 7) t))
  refine BIBase.Entails.trans ?_ ((point m c t).trans (wp_mono _ _ _ fun _ => ?_))
  · simp only [before_0, before_1, before_2, before_3, before_4, before_5]
    unfold pointPre staged
    iintro ⟨Hi, HO, ⟨%d0, H0⟩, ⟨%d1, H1⟩, ⟨%d2, H2⟩, ⟨%d3, H3⟩, ⟨%d4, H4⟩, ⟨%d5, H5⟩, H6⟩
    isplitl [Hi]; · iexact Hi
    isplitl [HO]; · iapply (owesAt_elim m c t.castSucc); iexact HO
    isplitl [H0 H1 H2 H3 H4 H5]
    · isplitl [H0]; · iexact H0
      isplitl [H1]; · iexact H1
      isplitl [H2]; · iexact H2
      isplitl [H3]; · iexact H3
      isplitl [H4] <;> iassumption
    iexact H6
  · unfold pointPost staged
    iintro ⟨Hi, HO, ⟨H0, H1, H2, H3, H4, H5⟩, H6⟩
    isplitl [Hi]; · iexact Hi
    isplitl [HO]; · iapply (owesAt_intro m c t.succ); iexact HO
    isplitl [H0]; · iexact H0
    isplitl [H1]; · iexact H1
    isplitl [H2]; · iexact H2
    isplitl [H3]; · iexact H3
    isplitl [H4]; · iexact H4
    isplitl [H5] <;> iassumption

end Cert.KernelIdealProof

end
-- ==== Proof.KernelIdealRun.lean ====
/- The expert kernel's run on the mesh: the launch deals every device its own semaphores' rounds and its partner's duties,
   the host's three reshapings run, then the kernel; every final state has the five inputs as launched, the result at the
   kernel's value, every counter zero. -/
module

public import proofs.«01_k».proof.Proof.KernelIdealObligation
public import Idealize.ShloMosaic.Lib.Pipeline.CollectiveSegs
public import Idealize.ShloMosaic.Lib.Pipeline.ValueKit

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev adm : (p : Fin 1) → (pcfgs (F := F) p).Adm := fun p => (cfgs p).toPCfg_adm
/-- The proof data, at the pipelines as launched. -/
def pdats : (p : Fin 1) → (c : Dev nD) → Pipeline.Dat τ (Elt F) Unit ℕ UU ℕ (Pipeline.pin (pcfgs (F := F)) adm p) c
  | 0 => fun c => dats m 0 c

theorem ownSemFacts : Pipeline.OwnSemFacts spec0 osem := by decide

/-! ## The launch's ghost state -/

theorem csem_injective : Function.Injective csem := by decide
theorem kcell_injective : Function.Injective (kcell : Dev nD × Fin 3 → GSem nD τ sig) := by
  rintro ⟨c, k⟩ ⟨c', k'⟩ h
  obtain rfl : c = c' := by have := congrArg (fun g : GSem nD τ sig => g.1.1) h; exact this
  obtain rfl : k = k' := csem_injective (congrArg Prod.snd h)
  rfl

/-- The barrier's cells, counted from the launch on. -/
def barCells : Finset (GSem nD τ sig) := Finset.univ.map ⟨fun c : Dev nD => kcell (c, 0), fun a b h => congrArg Prod.fst (kcell_injective h)⟩
/-- The transfer's cells, counted from the kernel's entry on. -/
def dmaCells : Finset (GSem nD τ sig) := Finset.univ.map
  ⟨fun ck : Dev nD × Fin 2 => kcell (ck.1, ck.2.succ), fun a b h => by
    have := kcell_injective h
    exact Prod.ext (Prod.mk.inj this).1 (Fin.succ_injective _ (Prod.mk.inj this).2)⟩
def toks₀ : Finset (GSem nD τ sig × ℕ × Bool) := Finset.univ.map
  ⟨fun ck : Dev nD × Fin 3 => (kcell ck, 0, false), fun a b h => kcell_injective (congrArg Prod.fst h)⟩

theorem cells_disjoint : Disjoint barCells dmaCells := by
  rw [Finset.disjoint_left]
  intro g h1 h2
  obtain ⟨c, -, rfl⟩ := Finset.mem_map.mp h1
  obtain ⟨ck, -, h⟩ := Finset.mem_map.mp h2
  have := congrArg Prod.snd (kcell_injective h)
  exact absurd this (Fin.succ_ne_zero _)

def u₀ : UU :=
  (initOf (Pipeline.cells (Pipeline.pin (pcfgs (F := F)) adm) cellOf_inj) (Pipeline.launchToks (Pipeline.pin (pcfgs (F := F)) adm) cellOf_inj),
    launchOf barCells dmaCells toks₀)

/-- The rounds' element, dealt whole to device 0. -/
def G (c : Dev nD) : sProp 𝕄 := if c = 0 then BI.own (ER (launchOf barCells dmaCells toks₀)) else iprop(emp)

omit [FloatOps F] in
theorem bigSep_G_eq : bigSep Finset.univ (G (F := F)) = (BI.own (ER (launchOf barCells dmaCells toks₀)) : sProp 𝕄) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- A device's part of it before the kernel's entry: the transfer's two cells still to be opened. -/
def ghost (K : Dev nD × Fin 3 → ℕ) (c : Dev nD) : sProp 𝕄 :=
  iprop(invs m K c ∗ atPos ER (barCell c) 0 ∅ 0 ∗ reached ER (barCell (peer c)) 0 ∗ openTok ER (dcell sS c) ∗ openTok ER (dcell vR c)
    ∗ dutyTok ER (barCell (peer c)) 0 false ∗ dutyTok ER (dcell sS c) 0 false ∗ dutyTok ER (dcell vR (peer c)) 0 false)

omit [FloatOps F] in
theorem ownSems0_eq (c : Dev nD) : (Pipeline.ownSems0 (Ix := Unit) (Name := ℕ) (U := UU) (Lvl := ℕ) (Val := Elt F) (τ := τ) osem c : sProp 𝕄)
    = iprop(semVal (dcell sS c) 0 ∗ semVal (dcell vR c) 0) := by
  rw [Pipeline.ownSems0_eq_of_list c osem [0, 1] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem mem_bar (c : Dev nD) : kcell (c, 0) ∈ barCells := Finset.mem_map.mpr ⟨c, Finset.mem_univ _, rfl⟩
omit [FloatOps F] in
theorem mem_dma (c : Dev nD) (k : Fin 2) : kcell (c, k.succ) ∈ dmaCells := Finset.mem_map.mpr ⟨(c, k), Finset.mem_univ _, rfl⟩
omit [FloatOps F] in
theorem mem_cells (c : Dev nD) : ∀ k : Fin 3, kcell (c, k) ∈ barCells ∪ dmaCells
  | 0 => Finset.mem_union_left _ (mem_bar c)
  | 1 => Finset.mem_union_right _ (mem_dma c 0)
  | 2 => Finset.mem_union_right _ (mem_dma c 1)

theorem inv_at (κ : GSem nD τ sig → ℕ) (c : Dev nD) (k : Fin 3) :
    (bigSep (barCells ∪ dmaCells) fun g => (cellInv ER (sched m) (κ g) g : sProp 𝕄)) ⊢ cellInv ER (sched m) (κ (kcell (c, k))) (kcell (c, k)) :=
  bigSep_elim (mem_cells c k)
omit [FloatOps F] in
theorem reached_at (c : Dev nD) : (bigSep barCells fun g => (reached ER g 0 : sProp 𝕄)) ⊢ reached ER (kcell (c, 0)) 0 :=
  bigSep_elim (mem_bar c)

/-- What each device is dealt for itself alone. -/
def linear (c : Dev nD) : sProp 𝕄 :=
  iprop(atPos ER (kcell (c, 0)) 0 ∅ 0 ∗ (openTok ER (kcell (c, 1)) ∗ openTok ER (kcell (c, 2)))
    ∗ dutyTok ER (kcell (peer c, 0)) 0 false ∗ dutyTok ER (kcell (c, 1)) 0 false ∗ dutyTok ER (kcell (peer c, 2)) 0 false)

theorem ghost_intro (κ : GSem nD τ sig → ℕ) (c : Dev nD) :
    iprop(((bigSep (barCells ∪ dmaCells) fun g => (cellInv ER (sched m) (κ g) g : sProp 𝕄)) ∗ bigSep barCells fun g => reached ER g 0) ∗ linear c)
      ⊢ (∃ K, ghost m K c : sProp 𝕄) := by
  unfold linear ghost invs
  iintro ⟨⟨#HI, #HR⟩, Ha, ⟨Ho1, Ho2⟩, Ht0, Ht1, Ht2⟩
  iexists (fun ck => κ (kcell ck))
  isplitr
  · isplitr; · iapply (inv_at m κ c 0); iexact HI
    isplitr; · iapply (inv_at m κ c 1); iexact HI
    isplitr; · iapply (inv_at m κ c 2); iexact HI
    isplitr; · iapply (inv_at m κ (peer c) 0); iexact HI
    iapply (inv_at m κ (peer c) 2); iexact HI
  isplitl [Ha]; · iexact Ha
  isplitr; · iapply (reached_at (F := F) (peer c)); iexact HR
  isplitl [Ho1]; · iexact Ho1
  isplitl [Ho2]; · iexact Ho2
  isplitl [Ht0]; · iexact Ht0
  isplitl [Ht1]; · iexact Ht1
  iexact Ht2

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin2 (Φ : Fin 2 → sProp 𝕄) : bigSep Finset.univ Φ = iprop(Φ 0 ∗ Φ 1) := bigSep_univ_eq_bigSepL [0, 1] (by decide) (by decide) Φ

omit [FloatOps F] in
/-- The dealing: each device its own positions and openings, the duties at its partner's barrier and receive cell. -/
theorem dealt :
    iprop((bigSep barCells fun g => (atPos ER g 0 ∅ 0 : sProp 𝕄)) ∗ (bigSep dmaCells fun g => openTok ER g)
      ∗ bigSep toks₀ fun x => dutyTok ER x.1 x.2.1 x.2.2) ⊢ (bigSep Finset.univ fun c : Dev nD => linear c : sProp 𝕄) := by
  have h1 : (bigSep barCells fun g => (atPos ER g 0 ∅ 0 : sProp 𝕄)) = bigSep Finset.univ fun c : Dev nD => atPos ER (kcell (c, 0)) 0 ∅ 0 := by
    unfold barCells; rw [bigSep_map]; rfl
  have h2 : (bigSep dmaCells fun g => (openTok ER g : sProp 𝕄)) = bigSep Finset.univ fun c : Dev nD => iprop(openTok ER (kcell (c, 1)) ∗ openTok ER (kcell (c, 2))) := by
    unfold dmaCells; rw [bigSep_map, bigSep_univ_prod]; exact bigSep_congr fun c _ => bigSep_fin2 _
  have h3 : (bigSep toks₀ fun x => (dutyTok ER x.1 x.2.1 x.2.2 : sProp 𝕄)) = bigSep Finset.univ fun c : Dev nD =>
      iprop(dutyTok ER (kcell (c, 0)) 0 false ∗ dutyTok ER (kcell (c, 1)) 0 false ∗ dutyTok ER (kcell (c, 2)) 0 false) := by
    unfold toks₀; rw [bigSep_map, bigSep_univ_prod]; exact bigSep_congr fun c _ => bigSep_fin3 _
  rw [h1, h2, h3]
  unfold linear
  rw [bigSep_sep', bigSep_sep', bigSep_sep', bigSep_sep', bigSep_sep', bigSep_sep', bigSep_sep', bigSep_sep',
    bigSep_univ_equiv swap (fun c : Dev nD => (dutyTok ER (kcell (c, 0)) 0 false : sProp 𝕄)),
    bigSep_univ_equiv swap (fun c : Dev nD => (dutyTok ER (kcell (c, 2)) 0 false : sProp 𝕄))]
  iintro ⟨Ha, Ho, H0, H1, H2⟩
  isplitl [Ha]; · iexact Ha
  isplitl [Ho]; · iexact Ho
  isplitl [H0]; · iexact H0
  isplitl [H1]; · iexact H1
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The launch's element and the barriers' counters make every device's part. -/
theorem fund : iprop((bigSep Finset.univ fun c : Dev nD => (semVal (barCell c) 0 : sProp 𝕄)) ∗ BI.own (ER (launchOf barCells dmaCells toks₀)))
    ⊢ (|={Set.univ}=> bigSep Finset.univ fun c : Dev nD => iprop(∃ K, ghost m K c) : sProp 𝕄) := by
  have h1 : (bigSep barCells fun g => (semVal g 0 : sProp 𝕄)) = bigSep Finset.univ fun c : Dev nD => semVal (barCell c) 0 := by
    unfold barCells; rw [bigSep_map]; rfl
  rw [← h1]
  iintro H
  imod (Rounds.fund_launch ER (sched m) cells_disjoint (fun _ _ h => h) toks₀) $$ H with ⟨%κ, -, #HI, #HR, Ha, Ho, Ht⟩
  imodintro
  ihave Hl := (dealt (F := F)) $$ [Ha Ho Ht]
  · isplitl [Ha]; · iexact Ha
    isplitl [Ho] <;> iassumption
  iapply (bigSep_with_persistent (Φ := linear) fun c _ => ghost_intro m κ c)
  isplitr
  · isplitr; · iexact HI
    iexact HR
  iexact Hl

/-! ## The launch credit -/

omit [FloatOps F] in
theorem cell_eq_iff {a b : Dev nD} {sm : SemLoc sig} : Iff ((((a : Thread nD τ), sm) : GSem nD τ sig) = ((b : Thread nD τ), sm)) (a = b) :=
  ⟨fun h => Fin.ext (congrArg (fun g : GSem nD τ sig => g.1.1.val) h), fun h => h ▸ rfl⟩

omit [FloatOps F] in
/-- What device `d` owes any cell. -/
theorem owed_apply (d : Dev nD) (g : GSem nD τ sig) : O₀ d g ()
    = (if g = dcell vR (peer d) then NT else 0) + (if g = barCell (peer d) then 1 else 0) := by
  unfold O₀ O₁
  simp only [Pi.add_apply, Finsupp.add_apply, tallyAt_apply, and_true]

omit [FloatOps F] in
/-- A cell of the partner's is `c`'s exactly for the partner. -/
theorem owed_ite (d c : Dev nD) (sm : SemLoc sig) (n : ℕ) :
    (if (((c : Thread nD τ), sm) : GSem nD τ sig) = ((peer d : Thread nD τ), sm) then n else 0) = if d = peer c then n else 0 := by
  by_cases h : d = peer c
  · subst h; rw [peer_peer, if_pos rfl, if_pos rfl]
  · rw [if_neg (fun h1 => h (by rw [← peer_peer d]; exact congrArg peer (cell_eq_iff.mp h1).symm)), if_neg h]

omit [FloatOps F] in
theorem owed_bar (d c : Dev nD) : O₀ d (barCell c) () = if d = peer c then 1 else 0 := by
  rw [owed_apply, if_neg (fun h => by cases h), owed_ite]; simp only [Nat.zero_add]
omit [FloatOps F] in
theorem owed_vR (d c : Dev nD) : O₀ d (dcell vR c) () = if d = peer c then NT else 0 := by
  rw [owed_apply, if_neg (show ¬ dcell vR c = barCell (peer d) from fun h => by cases h), owed_ite]; simp only [Nat.add_zero]

omit [FloatOps F] in
theorem launch_at (c : Dev nD) (sm : SemLoc sig) (n : ℕ) (h : ∀ d, O₀ d ((c : Thread nD τ), sm) () = if d = peer c then n else 0) :
    tallyOn ((c : Thread nD τ), sm) (launchCredit (Pipeline.owing O₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (peer c) fun _ => n,
    if_pos (Finset.mem_univ _)]

omit [FloatOps F] in
theorem launchCred_split (c : Dev nD) :
    (Pipeline.launchCred O₀ c : sProp 𝕄) = iprop(cred (tallyAt (barCell c) () 1) ∗ cred (tallyAt (dcell vR c) () NT)
      ∗ bigSep ((Finset.univ.erase (SemLoc.reg barS)).erase (SemLoc.dma vR))
          (fun sm : SemLoc sig => cred (tallyOn (((c : Thread nD τ), sm) : GSem nD τ sig) (launchCredit (Pipeline.owing O₀) 0 ((c : Thread nD τ), sm))))) := by
  unfold Pipeline.launchCred
  rw [bigSep_univ_at _ (SemLoc.reg barS), bigSep_erase (Finset.mem_erase.mpr ⟨(fun h => by cases h), Finset.mem_univ (SemLoc.dma vR)⟩),
    launch_at c _ 1 (fun d => owed_bar d c), launch_at c _ NT (fun d => owed_vR d c)]
  rfl
omit [FloatOps F] in
theorem creds (c : Dev nD) :
    (Pipeline.launchCred O₀ c : sProp 𝕄) ⊢ iprop(cred (tallyAt (barCell c) () 1) ∗ cred (tallyAt (dcell vR c) () NT)) := by
  rw [launchCred_split]
  iintro ⟨H1, H2, -⟩
  isplitl [H1] <;> iassumption

/-! ## The program's two segments -/

/-- What a device carries through the host's operations to the kernel. -/
def carried (c : Dev nD) : sProp 𝕄 :=
  iprop((∃ K, ghost m K c) ∗ cred (tallyAt (barCell c) () 1) ∗ cred (tallyAt (dcell vR c) () NT) ∗ owes (c : Thread nD τ) (O₀ c) ∅)

abbrev pl (c : Dev nD) (b : Ref sig .tc) (f : Buf (Elt F) ((c : Thread nD τ).loc b)) : sProp 𝕄 := ((c : Thread nD τ).loc b) ↦{fullShare} f

abbrev bufs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs; rw [Finset.filter_map, BI.bigSep_map]; rfl

theorem ops_sub : ∀ op ∈ (hostOps0 : List (HloOp τ sig (Elt F))), op.bufs ⊆ bufs := fun op h => by
  simp only [List.mem_cons, List.mem_nil_iff, or_false] at h
  rcases h with rfl | rfl | rfl
  · show ({Proc.devRef .tc main_arg0, Proc.devRef .tc main_v1} : Finset (DevRef τ sig)) ⊆ bufs; decide
  · show ({Proc.devRef .tc main_arg0, Proc.devRef .tc main_v2} : Finset (DevRef τ sig)) ⊆ bufs; decide
  · show ({Proc.devRef .tc main_arg1, Proc.devRef .tc main_v3} : Finset (DevRef τ sig)) ⊆ bufs; decide
theorem ops_fresh : ∀ op ∈ (hostOps0 : List (HloOp τ sig (Elt F))), op.fresh = ∅ := fun op h => by
  simp only [List.mem_cons, List.mem_nil_iff, or_false] at h
  rcases h with rfl | rfl | rfl <;> rfl

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- The host's operations: a device's buffers through them, its part of the protocol carried. -/
def seg0 : ℍ := Pipeline.HostSeg.ofOps _ _ _ _ _ bufs (hostOps0 (F := F)) ops_sub ops_fresh (fun c b => m (c, b)) (carried m)

/-- What a device ends with: its inputs as launched, the result, its barrier's counter at zero. -/
def final (c : Dev nD) : sProp 𝕄 :=
  iprop(pl c main_arg0 (m ((c : Thread nD τ).loc main_arg0)) ∗ pl c main_arg1 (m ((c : Thread nD τ).loc main_arg1))
    ∗ pl c main_arg2 (m ((c : Thread nD τ).loc main_arg2)) ∗ pl c main_arg3 (m ((c : Thread nD τ).loc main_arg3))
    ∗ pl c main_arg4 (m ((c : Thread nD τ).loc main_arg4)) ∗ pl c main_v4 (outv m c) ∗ semVal (barCell c) 0)

/-- The result's array ends at the kernel's value: the last point alone writes it back, and it writes all of it. -/
theorem final_out (c : Dev nD) : (dats m 0 c).arrAt (6 : Fin 7) cfg0.N = outv m c :=
  (dats m 0 c).arrAt_eq_of_after_last (6 : Fin 7) (pt 31) (by decide +kernel) _ fun j => by blk_simp; rfl

theorem arrays_eq (c : Dev nD) (Fa) : ((pdats m 0 c).arrays Fa : sProp 𝕄) = iprop(pl c main_v1 (Fa (0 : Fin 7)) ∗ pl c main_v2 (Fa (1 : Fin 7))
    ∗ pl c main_v3 (Fa (2 : Fin 7)) ∗ pl c main_arg2 (Fa (3 : Fin 7)) ∗ pl c main_arg3 (Fa (4 : Fin 7)) ∗ pl c main_arg4 (Fa (5 : Fin 7)) ∗ pl c main_v4 (Fa (6 : Fin 7))) := by
  rw [Pipeline.arrays_eq (Pipeline.pin (pcfgs (F := F)) adm) (pdats m) 0 c launch0.arr_whole ((pdats m 0 c).share_full fun _ => rfl) Fa, bigSep_W0]

theorem ended_3 (c : Dev nD) : (dats m 0 c).arrAt (3 : Fin 7) cfg0.N = m ((c : Thread nD τ).loc main_arg2) :=
  ((dats m 0 c).arrAt_in (3 : Fin 7) rfl _).trans (V_main_arg2 m c)
theorem ended_4 (c : Dev nD) : (dats m 0 c).arrAt (4 : Fin 7) cfg0.N = m ((c : Thread nD τ).loc main_arg3) :=
  ((dats m 0 c).arrAt_in (4 : Fin 7) rfl _).trans (V_main_arg3 m c)
theorem ended_5 (c : Dev nD) : (dats m 0 c).arrAt (5 : Fin 7) cfg0.N = m ((c : Thread nD τ).loc main_arg4) :=
  ((dats m 0 c).arrAt_in (5 : Fin 7) rfl _).trans (V_main_arg4 m c)

omit [FloatOps F] in
theorem has_toks (c : Dev nD) (T : Vec F S2x304x1024 .f32) : (has c tM T : sProp 𝕄) = (((c : Thread nD τ).loc cc0_scratch0) ↦{fullShare} T) :=
  owns_whole (c : Thread nD τ) cc0_scratch0 fullShare T
omit [FloatOps F] in
theorem has_acc (c : Dev nD) (A : Vec F S2x304x1024 .f32) : (has c aM A : sProp 𝕄) = (((c : Thread nD τ).loc cc0_scratch1) ↦{fullShare} A) :=
  owns_whole (c : Thread nD τ) cc0_scratch1 fullShare A
omit [FloatOps F] in
theorem has_sum (c : Dev nD) (P : Vec F S2048x1024 .f32) : (has c pM P : sProp 𝕄) = (((c : Thread nD τ).loc cc0_scratch2) ↦{fullShare} P) :=
  owns_whole (c : Thread nD τ) cc0_scratch2 fullShare P

/-- A kernel's scratch buffers at any contents are the scoped buffers that stage nothing. -/
theorem anyScr_eq (c : Dev nD) : (anyScr (F := F) c : sProp 𝕄) ⊣⊢ Pipeline.scopedRest (Ix := Unit) (Name := ℕ) (U := UU) (Lvl := ℕ) (Val := Elt F) spec0 c := by
  rw [scopedRest0_eq]
  unfold anyScr scr
  constructor
  · iintro ⟨⟨%T, %A, %P, HT, HA, HP⟩, %f, HR⟩
    ihave HT := (Entails.of_eq (has_toks c T)) $$ HT
    ihave HA := (Entails.of_eq (has_acc c A)) $$ HA
    ihave HP := (Entails.of_eq (has_sum c P)) $$ HP
    ihave HR := (Entails.of_eq (rPts_eq c f)) $$ HR
    isplitl [HT]; · iexists T; iexact HT
    isplitl [HA]; · iexists A; iexact HA
    isplitl [HP]; · iexists P; iexact HP
    iexists f; iexact HR
  · iintro ⟨⟨%T, HT⟩, ⟨%A, HA⟩, ⟨%P, HP⟩, %f, HR⟩
    ihave HT := (Entails.of_eq (has_toks c T).symm) $$ HT
    ihave HA := (Entails.of_eq (has_acc c A).symm) $$ HA
    ihave HP := (Entails.of_eq (has_sum c P).symm) $$ HP
    ihave HR := (Entails.of_eq (rPts_eq c f).symm) $$ HR
    isplitl [HT HA HP]
    · iexists T; iexists A; iexists P
      isplitl [HT]; · iexact HT
      isplitl [HA]; · iexact HA
      iexact HP
    iexists f; iexact HR

/-- The transfer's two cells opened at the kernel's entry. -/
theorem start_intro (c : Dev nD) :
    iprop((∃ K, ghost m K c) ∗ cred (tallyAt (barCell c) () 1) ∗ cred (tallyAt (dcell vR c) () NT)
        ∗ (semVal (dcell sS c) 0 ∗ semVal (dcell vR c) 0) ∗ levAts L lv) ⊢ (|={Set.univ}=> start m c : sProp 𝕄) := by
  unfold ghost start kept
  iintro ⟨⟨%K, #HI, HaB, #HrB, HoS, HoV, HtB, HtS, HtV⟩, HcB, HcV, ⟨HzS, HzV⟩, #Hlev⟩
  ihave #HI2 := (show invs m K c ⊢ iprop(cellInv ER (sched m) (K (c, 1)) (dcell sS c) ∗ cellInv ER (sched m) (K (c, 2)) (dcell vR c)) from by
    unfold invs; iintro ⟨-, H1, H2, -⟩; isplitl [H1] <;> iassumption) $$ HI
  icases HI2 with ⟨#HIs, #HIv⟩
  imod (Rounds.cell_open ER (sched m) (g := dcell sS c) (Set.mem_univ (K (c, 1)))) $$ [HoS HzS] with ⟨HaS, #HrS⟩
  · isplitr; · iexact HIs
    isplitl [HoS] <;> iassumption
  imod (Rounds.cell_open ER (sched m) (g := dcell vR c) (Set.mem_univ (K (c, 2)))) $$ [HoV HzV] with ⟨HaV, #HrV⟩
  · isplitr; · iexact HIv
    isplitl [HoV] <;> iassumption
  imodintro
  isplitr
  · iexists K
    isplitr; · iexact HI
    iexact Hlev
  isplitl [HaS HaV HtV HtS HcV]
  · isplitl [HaS]; · iexact HaS
    isplitl [HaV]; · iexact HaV
    isplitl [HtV]; · iexact HtV
    isplitl [HtS]; · iexact HtS
    isplitr; · iexact HrS
    iexact HcV
  isplitl [HaB]; · iexact HaB
  isplitr; · iexact HrB
  isplitr; · iexact HrV
  isplitl [HtB]; · iexact HtB
  iexact HcB

/-- No staging semaphore is the receive semaphore. -/
theorem stage_ne : ∀ (w : Fin 7) (s : Fin (spec0 w).nbuf), (.dma ((spec0 w).sem s) : SemLoc sig) ≠ .dma vR := by decide

/-- The kernel's region. -/
def reg0 : ℝ𝕊 0 where
  win := launch0.win.to₀
  block_pos := launch0.block_pos
  stage_whole := launch0.stage_whole
  K := Fin 2
  osem := osem
  ho := ownSemFacts
  hbody c := (body_obligation m c).loose
  hwaits c := Pipeline.cellsWaits_intro _ (pdats m) () 0 c fun w s t =>
    mayWait_stage c _ (stage_ne w s) _ (by
      show owedAt c t.val = O₀ c ∨ owedAt c t.val = O₁ c ∨ owedAt c t.val = 0
      unfold owedAt; split
      · exact Or.inl rfl
      split
      · exact Or.inr (Or.inl rfl)
      · exact Or.inr (Or.inr rfl))
  pre c := iprop(unscopedBufs c (fun b => V m c b) ∗ carried m c)
  post c := iprop(final m c ∗ ∃ W, owes (c : Thread nD τ) (0 : CellTallies nD τ sig Unit) W)
  X := start m
  Y c := semVal (barCell c) 0
  Z c := Pipeline.unscopedRest (Ix := Unit) (Name := ℕ) (U := UU) (Lvl := ℕ) spec0 c (fun b => V m c b)
  hentry c := by
    have hsplit := Pipeline.arrays_of_unscopedBufs (pcfgs (F := F)) adm (pdats m) launch0.win launch0.arr_whole c
      ((pdats m 0 c).share_full fun _ => rfl) (fun b => V m c b) fun _ => rfl
    rw [ownSems0_eq]
    unfold carried
    iintro ⟨⟨Hub, HG, HcB, HcV, HO⟩, Hz, Hlev⟩
    ihave H := hsplit $$ Hub
    icases H with ⟨Ha, Hr⟩
    imod (start_intro m c) $$ [HG HcB HcV Hz Hlev] with Hs
    · isplitl [HG]; · iexact HG
      isplitl [HcB]; · iexact HcB
      isplitl [HcV]; · iexact HcV
      isplitl [Hz]; · iexact Hz
      iexact Hlev
    imodintro
    isplitl [Ha]; · iexact Ha
    isplitr; · unfold Pipeline.prefHeld; rw [show (Finset.univ : Finset (Fin 0)) = ∅ from rfl, BI.bigSep_empty]; iempintro
    isplitl [HO]
    · iapply (owesAt_intro m c 0); iexists ∅; iexact HO
    isplitl [Hs]; · iexact Hs
    iexact Hr
  hin c := by
    show iprop(start m c ∗ Pipeline.prefHeld (pcfgs (F := F) 0).pre c (fun _ => fullShare) (adm (F := F) 0).1 ∗ Pipeline.scopedRest spec0 c) ⊢ iprop(start m c ∗ anyScr c)
    iintro ⟨Hs, -, HR⟩
    isplitl [Hs]; · iexact Hs
    iapply (anyScr_eq c).2; iexact HR
  hout c := by
    show iprop(ended c ∗ anyScr c) ⊢ iprop(semVal (barCell c) 0 ∗ Pipeline.ownSems0 osem c ∗ Pipeline.scopedRest spec0 c)
    rw [ownSems0_eq]; unfold ended
    iintro ⟨⟨HB, HS⟩, HR⟩
    isplitl [HB]; · iexact HB
    isplitl [HS]; · iexact HS
    iapply (anyScr_eq c).1; iexact HR
  hexit c := by
    have ho := owesAt_elim m c (Fin.last cfg0.N)
    rw [arrays_eq, unscopedRest0_eq, show V m c main_arg0 = _ from V_main_arg0 m c, show V m c main_arg1 = _ from V_main_arg1 m c,
      show (pdats m 0 c).arrAt (3 : Fin 7) _ = _ from ended_3 m c, show (pdats m 0 c).arrAt (4 : Fin 7) _ = _ from ended_4 m c,
      show (pdats m 0 c).arrAt (5 : Fin 7) _ = _ from ended_5 m c, show (pdats m 0 c).arrAt (6 : Fin 7) _ = _ from final_out m c]
    unfold final
    iintro ⟨⟨-, -, -, H2, H3, H4, Hv⟩, HO, HB, H0, H1⟩
    imodintro
    isplitr [HO]
    · isplitl [H0]; · iexact H0
      isplitl [H1]; · iexact H1
      isplitl [H2]; · iexact H2
      isplitl [H3]; · iexact H3
      isplitl [H4]; · iexact H4
      isplitl [Hv]; · iexact Hv
      iexact HB
    iapply ho; iexact HO

def segs : List (Pipeline.Seg (pcfgs (F := F)) adm (pdats m) () defs₀ 𝒱₀ L lv) := [.host (seg0 m), .region (reg0 m)]

theorem main_eq (c : Dev nD) : main (F := F) c = Pipeline.Seg.run (segs m) := main_segs adm (pdats m) () 𝒱₀ L lv (seg0 m) (reg0 m) rfl c

/-- What the host's operations leave is what the kernel is entered with. -/
theorem seg0_reg0 (c : Dev nD) : (seg0 m).post c ⊢ (reg0 m).pre c := by
  dsimp only [seg0, reg0, Pipeline.HostSeg.ofOps]
  rw [← unscopedBufs_held]

/-! ## The launch -/

theorem unscoped_eq : ∀ sm : SemLoc sig, sm.isScoped .tc = false → sm = .reg barS := by decide

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (seg0 m).pre : sProp 𝕄) := by
  have h1 (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(semVal (barCell c) 0 ∗ G c ∗ (StableHlo.held (c : Thread nD τ) bufs (fun b => m (c, b))
          ∗ cred (tallyAt (barCell c) () 1) ∗ cred (tallyAt (dcell vR c) () NT) ∗ owes (c : Thread nD τ) (O₀ c) ∅)) : sProp 𝕄) := by
    rw [unscopedSems0_eq, ← unscopedBufs_held]
    iintro ⟨Hub, Hus, HO, Hcr, -, HG⟩
    ihave Hc := (creds (F := F) c) $$ Hcr
    icases Hc with ⟨HcB, HcV⟩
    isplitl [Hus]; · iexact Hus
    isplitl [HG]; · iexact HG
    isplitl [Hub]; · iexact Hub
    isplitl [HcB]; · iexact HcB
    isplitl [HcV] <;> iassumption
  have h2 (c : Dev nD) : iprop((∃ K, ghost m K c) ∗ (StableHlo.held (c : Thread nD τ) bufs (fun b => m (c, b))
          ∗ cred (tallyAt (barCell c) () 1) ∗ cred (tallyAt (dcell vR c) () NT) ∗ owes (c : Thread nD τ) (O₀ c) ∅))
      ⊢ ((seg0 m).pre c : sProp 𝕄) := by
    show _ ⊢ iprop(StableHlo.held (c : Thread nD τ) bufs (fun b => m (c, b)) ∗ carried m c)
    unfold carried
    iintro ⟨HG, Hb, HcB, HcV, HO⟩
    isplitl [Hb]; · iexact Hb
    isplitl [HG]; · iexact HG
    isplitl [HcB]; · iexact HcB
    isplitl [HcV] <;> iassumption
  have h1' : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ G c))
      ⊢ (iprop((bigSep Finset.univ fun c : Dev nD => semVal (barCell c) 0) ∗ bigSep Finset.univ (G (F := F))
        ∗ bigSep Finset.univ fun c : Dev nD => iprop(StableHlo.held (c : Thread nD τ) bufs (fun b => m (c, b))
          ∗ cred (tallyAt (barCell c) () 1) ∗ cred (tallyAt (dcell vR c) () NT) ∗ owes (c : Thread nD τ) (O₀ c) ∅)) : sProp 𝕄) := by
    rw [← bigSep_sep', ← bigSep_sep']; exact bigSep_mono fun c _ => h1 c
  have h2' : iprop((bigSep Finset.univ fun c : Dev nD => iprop(∃ K, ghost m K c))
        ∗ bigSep Finset.univ fun c : Dev nD => iprop(StableHlo.held (c : Thread nD τ) bufs (fun b => m (c, b))
          ∗ cred (tallyAt (barCell c) () 1) ∗ cred (tallyAt (dcell vR c) () NT) ∗ owes (c : Thread nD τ) (O₀ c) ∅))
      ⊢ (bigSep Finset.univ (seg0 m).pre : sProp 𝕄) := by
    rw [← bigSep_sep']; exact bigSep_mono fun c _ => h2 c
  iintro ⟨H, -⟩
  ihave H' := h1' $$ H
  icases H' with ⟨Hs, HG, Hrest⟩
  ihave HG := (Entails.of_eq (bigSep_G_eq (F := F))) $$ HG
  imod (fund m) $$ [Hs HG] with Hg
  · isplitl [Hs] <;> iassumption
  imodintro
  iapply h2'
  isplitl [Hg] <;> iassumption

/-- What the run leaves on every device. -/
def QC (s : MemSt nD τ sig (Elt F)) : Prop := ∀ c : Dev nD,
  s.mem ((c : Thread nD τ).loc main_arg0) = m ((c : Thread nD τ).loc main_arg0) ∧ s.mem ((c : Thread nD τ).loc main_arg1) = m ((c : Thread nD τ).loc main_arg1)
  ∧ s.mem ((c : Thread nD τ).loc main_arg2) = m ((c : Thread nD τ).loc main_arg2) ∧ s.mem ((c : Thread nD τ).loc main_arg3) = m ((c : Thread nD τ).loc main_arg3)
  ∧ s.mem ((c : Thread nD τ).loc main_arg4) = m ((c : Thread nD τ).loc main_arg4) ∧ s.mem ((c : Thread nD τ).loc main_v4) = outv m c

set_option backward.isDefEq.respectTransparency.types false in
set_option maxRecDepth 8000 in
/-- From any memory with zero counters, every fair execution terminates with the inputs as launched, each device's result at
    the kernel's value and every counter at zero. -/
theorem run_main : θ_run defs (onTc (τ := τ) (main (F := F))) (s₀ m ρ) (fun r => QC m r.2 ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [bigSep_G_eq]; iexact HX)
    (T₀ := (seg0 m).pre) (Tₙ := final m)
    (hch := ⟨fun c => .rfl, seg0_reg0 m, fun c => .rfl⟩)
    (hinit := init m ρ)
    (QY := fun c s => (s.mem ((c : Thread nD τ).loc main_arg0) = m ((c : Thread nD τ).loc main_arg0) ∧ s.mem ((c : Thread nD τ).loc main_arg1) = m ((c : Thread nD τ).loc main_arg1)
      ∧ s.mem ((c : Thread nD τ).loc main_arg2) = m ((c : Thread nD τ).loc main_arg2) ∧ s.mem ((c : Thread nD τ).loc main_arg3) = m ((c : Thread nD τ).loc main_arg3)
      ∧ s.mem ((c : Thread nD τ).loc main_arg4) = m ((c : Thread nD τ).loc main_arg4) ∧ s.mem ((c : Thread nD τ).loc main_v4) = outv m c) ∧ s.sem (barCell c) = 0)
    (hfin := fun c s' => by
      unfold final
      iintro ⟨⟨H0, H1, H2, H3, H4, Hv, HB⟩, HSI⟩
      icombine HSI H0 gives %h0
      icombine HSI H1 gives %h1
      icombine HSI H2 gives %h2
      icombine HSI H3 gives %h3
      icombine HSI H4 gives %h4
      icombine HSI Hv gives %hv
      icombine HSI HB gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4, Buf.eq_of_forall_mem_univ hv⟩, by simpa using hb⟩
      iexact HSI)
    (hQ := fun s h hs => ⟨fun c => (h c).1, sem_eq_zero hs fun c sm hsm => by obtain rfl := unscoped_eq sm hsm; exact (h c).2⟩)

end Cert.KernelIdealProof

end
-- ==== Proof.KernelIdealBlocks.lean ====
/- The blocks of the expert kernel's input windows, element by element: which entry of the launched arrays each one is at
   the grid points where the kernel reads it. -/
module

public import proofs.«01_k».proof.Proof.KernelIdealProtocol
public import Idealize.ShloMosaic.Lib.Pipeline.ValueKit
public import Idealize.ShloMosaic.Lib.Claim

@[expose] public section

noncomputable section

namespace Cert.KernelIdealProof

open Cert.KernelIdeal Cert.KernelIdeal.Gen
open Idealize.ShloMosaic hiding ix1 ix2 ix3 ix4
open Idealize.ShloMosaic.TcCoe
open Idealize.ShloMosaic.ValueIdx

variable {F : FTy → Type} [FloatOps F]
variable (m : (ℓ : Loc nD τ sig) → Buf (Elt F) ℓ)

/-! ## The arrays the host prepares -/

/-- The slots as a column. -/
theorem V_column (c : Dev nD) : V m c main_v1 = broadcastInDim S8x304x1 ![0, 1] bcast_S8x304_S8x304x1_0_1 (m ((c : Thread nD τ).loc main_arg0)) := by
  unfold V
  after_results
/-- The slots as a row. -/
theorem V_row (c : Dev nD) : V m c main_v2 = broadcastInDim S8x1x304 ![0, 2] bcast_S8x304_S8x1x304_0_2 (m ((c : Thread nD τ).loc main_arg0)) := by
  unfold V
  after_results
/-- The weights as a column. -/
theorem V_weights (c : Dev nD) : V m c main_v3 = broadcastInDim S8x304x1 ![0, 1] bcast_S8x304_S8x304x1_0_1 (m ((c : Thread nD τ).loc main_arg1)) := by
  unfold V
  after_results

/-! ## Which block each point reads -/

theorem index_column : ∀ e : Fin 8, win0_0.index (pt (gp e.val)) (0 : Fin 3) = e.val ∧ win0_0.index (pt (gp e.val)) (1 : Fin 3) = 0
    ∧ win0_0.index (pt (gp e.val)) (2 : Fin 3) = 0 := by decide +kernel
theorem index_row : ∀ e : Fin 8, win0_1.index (pt (sp e.val)) (0 : Fin 3) = e.val ∧ win0_1.index (pt (sp e.val)) (1 : Fin 3) = 0
    ∧ win0_1.index (pt (sp e.val)) (2 : Fin 3) = 0 := by decide +kernel
theorem index_weights : ∀ e : Fin 8, win0_2.index (pt (gp e.val)) (0 : Fin 3) = e.val ∧ win0_2.index (pt (gp e.val)) (1 : Fin 3) = 0
    ∧ win0_2.index (pt (gp e.val)) (2 : Fin 3) = 0 := by decide +kernel
theorem index_tokens : ∀ t : Fin cfg0.N, win0_3.index t (0 : Fin 2) = 0 ∧ win0_3.index t (1 : Fin 2) = 0 := by decide +kernel
theorem index_up : ∀ (e : Fin 8) (f : Fin 4), win0_4.index (pt (4 * e.val + f.val)) (0 : Fin 3) = e.val
    ∧ win0_4.index (pt (4 * e.val + f.val)) (1 : Fin 3) = 0 ∧ win0_4.index (pt (4 * e.val + f.val)) (2 : Fin 3) = f.val := by decide +kernel
theorem index_down : ∀ (e : Fin 8) (f : Fin 4), win0_5.index (pt (4 * e.val + f.val)) (0 : Fin 3) = e.val
    ∧ win0_5.index (pt (4 * e.val + f.val)) (1 : Fin 3) = f.val ∧ win0_5.index (pt (4 * e.val + f.val)) (2 : Fin 3) = 0 := by decide +kernel

/-! ## The blocks at an index -/

/-- At expert `e`'s gather the column of slots is row `e` of the slots. -/
theorem column_apply (c : Dev nD) (e : Fin 8) (j : Fin 304) :
    iblk m c 0 (pt (gp e.val)) (ix3 0 j 0) = m ((c : Thread nD τ).loc main_arg0) (ix2 e j) := by
  obtain ⟨h0, h1, h2⟩ := index_column e
  unfold iblk
  rw [View.read_apply]
  show V m c main_v1 _ = _
  rw [V_column]
  refine broadcastInDim_apply _ _ _ _ _ fun a => ?_
  match a with
  | ⟨0, _⟩ => show e.val = win0_0.index (pt (gp e.val)) (0 : Fin 3) * 1 + 1 * 0; omega
  | ⟨1, _⟩ => show j.val = win0_0.index (pt (gp e.val)) (1 : Fin 3) * 304 + 1 * j.val; omega

/-- At expert `e`'s gather the column of weights is row `e` of the weights. -/
theorem weights_apply (c : Dev nD) (e : Fin 8) (j : Fin 304) :
    iblk m c 2 (pt (gp e.val)) (ix3 0 j 0) = m ((c : Thread nD τ).loc main_arg1) (ix2 e j) := by
  obtain ⟨h0, h1, h2⟩ := index_weights e
  unfold iblk
  rw [View.read_apply]
  show V m c main_v3 _ = _
  rw [V_weights]
  refine broadcastInDim_apply _ _ _ _ _ fun a => ?_
  match a with
  | ⟨0, _⟩ => show e.val = win0_2.index (pt (gp e.val)) (0 : Fin 3) * 1 + 1 * 0; omega
  | ⟨1, _⟩ => show j.val = win0_2.index (pt (gp e.val)) (1 : Fin 3) * 304 + 1 * j.val; omega

/-- At expert `e`'s scatter the row of slots is row `e` of the slots. -/
theorem row_apply (c : Dev nD) (e : Fin 8) (j : Fin 304) :
    iblk m c 1 (pt (sp e.val)) (ix3 0 0 j) = m ((c : Thread nD τ).loc main_arg0) (ix2 e j) := by
  obtain ⟨h0, h1, h2⟩ := index_row e
  unfold iblk
  rw [View.read_apply]
  show V m c main_v2 _ = _
  rw [V_row]
  refine broadcastInDim_apply _ _ _ _ _ fun a => ?_
  match a with
  | ⟨0, _⟩ => show e.val = win0_1.index (pt (sp e.val)) (0 : Fin 3) * 1 + 1 * 0; omega
  | ⟨1, _⟩ => show j.val = win0_1.index (pt (sp e.val)) (2 : Fin 3) * 304 + 1 * j.val; omega

/-- The tokens' block is the whole array at every point. -/
theorem tokens_apply (c : Dev nD) (t : Fin cfg0.N) (j : Fin 2048) (d : Fin 1024) :
    iblk m c 3 t (ix2 j d) = m ((c : Thread nD τ).loc main_arg2) (ix2 j d) := by
  obtain ⟨h0, h1⟩ := index_tokens t
  unfold iblk
  rw [View.read_apply]
  show V m c main_arg2 _ = _
  rw [V_main_arg2]
  refine congrArg (m _) (funext fun a => Fin.ext ?_)
  match a with
  | ⟨0, _⟩ => show win0_3.index t (0 : Fin 2) * 2048 + 1 * j.val = j.val; omega
  | ⟨1, _⟩ => show win0_3.index t (1 : Fin 2) * 1024 + 1 * d.val = d.val; omega

/-- Hidden unit `k` of block `f` among all of them. -/
def hidden (f : Fin 4) (k : Fin 1024) : Fin 4096 := ⟨f.val * 1024 + k.val, by omega⟩

/-- At expert `e`'s block `f` the first matrix's block is the columns of that block of expert `e`'s matrix. -/
theorem up_apply (c : Dev nD) (e : Fin 8) (f : Fin 4) (i k : Fin 1024) :
    iblk m c 4 (pt (4 * e.val + f.val)) (ix3 0 i k) = m ((c : Thread nD τ).loc main_arg3) (ix3 e i (hidden f k)) := by
  obtain ⟨h0, h1, h2⟩ := index_up e f
  unfold iblk
  rw [View.read_apply]
  show V m c main_arg3 _ = _
  rw [V_main_arg3]
  refine congrArg (m _) (funext fun a => Fin.ext ?_)
  match a with
  | ⟨0, _⟩ => show win0_4.index (pt (4 * e.val + f.val)) (0 : Fin 3) * 1 + 1 * 0 = e.val; omega
  | ⟨1, _⟩ => show win0_4.index (pt (4 * e.val + f.val)) (1 : Fin 3) * 1024 + 1 * i.val = i.val; omega
  | ⟨2, _⟩ => show win0_4.index (pt (4 * e.val + f.val)) (2 : Fin 3) * 1024 + 1 * k.val = f.val * 1024 + k.val; omega

/-- At expert `e`'s block `f` the second matrix's block is the rows of that block of expert `e`'s matrix. -/
theorem down_apply (c : Dev nD) (e : Fin 8) (f : Fin 4) (k d : Fin 1024) :
    iblk m c 5 (pt (4 * e.val + f.val)) (ix3 0 k d) = m ((c : Thread nD τ).loc main_arg4) (ix3 e (hidden f k) d) := by
  obtain ⟨h0, h1, h2⟩ := index_down e f
  unfold iblk
  rw [View.read_apply]
  show V m c main_arg4 _ = _
  rw [V_main_arg4]
  refine congrArg (m _) (funext fun a => Fin.ext ?_)
  match a with
  | ⟨0, _⟩ => show win0_5.index (pt (4 * e.val + f.val)) (0 : Fin 3) * 1 + 1 * 0 = e.val; omega
  | ⟨1, _⟩ => show win0_5.index (pt (4 * e.val + f.val)) (1 : Fin 3) * 1024 + 1 * k.val = f.val * 1024 + k.val; omega
  | ⟨2, _⟩ => show win0_5.index (pt (4 * e.val + f.val)) (2 : Fin 3) * 1024 + 1 * d.val = d.val; omega

end Cert.KernelIdealProof

end
-- ==== Proof.MoeMath.lean ====
/- The arithmetic of a weighted expert on the extended reals, free of any program: a weight that is not negative and not
   infinite passes through the two products and the maximum with zero, and a sum of such weights distributes. -/
module

public import Idealize.ShloMosaic.Lib.ValueIdx

@[expose] public section

noncomputable section

namespace Cert.MoeMath

open scoped BigOperators

/-- A weight that is not negative and not infinite distributes over a finite sum. -/
theorem mul_sum {ι : Type*} (s : Finset ι) {w : EReal} (h0 : 0 ≤ w) (ht : w ≠ ⊤) (f : ι → EReal) : w * ∑ i ∈ s, f i = ∑ i ∈ s, w * f i := by
  classical
  induction s using Finset.induction_on with
  | empty => simp
  | insert a s ha ih => rw [Finset.sum_insert ha, Finset.sum_insert ha, EReal.left_distrib_of_nonneg_of_ne_top h0 ht, ih]

/-- Anything distributes over a finite sum of weights that are not negative. -/
theorem mul_sum_nonneg {ι : Type*} (s : Finset ι) (y : EReal) (w : ι → EReal) (h0 : ∀ i ∈ s, 0 ≤ w i) : y * ∑ i ∈ s, w i = ∑ i ∈ s, y * w i := by
  classical
  induction s using Finset.induction_on with
  | empty => simp
  | insert a s ha ih =>
    have hs : ∀ i ∈ s, 0 ≤ w i := fun i hi => h0 i (Finset.mem_insert_of_mem hi)
    rw [Finset.sum_insert ha, Finset.sum_insert ha, EReal.left_distrib_of_nonneg (h0 a (Finset.mem_insert_self a s)) (Finset.sum_nonneg hs), ih hs]

/-- A weight that is not negative passes through the maximum with zero. -/
theorem mul_relu {w : EReal} (h0 : 0 ≤ w) (x : EReal) : max (w * x) 0 = w * max x 0 := by
  rcases le_total 0 x with h | h
  · rw [max_eq_left h, max_eq_left (mul_nonneg h0 h)]
  · rw [max_eq_right h, mul_zero, max_eq_right]
    exact EReal.mul_nonpos_iff.mpr (Or.inl ⟨h0, h⟩)

variable {ι κ : Type*} [Fintype ι] [Fintype κ]

/-- One expert on one token, column `d` of its result: the token through the first matrix, the maximum with zero, the second
    matrix's column. -/
def ffn (x : ι → EReal) (A : ι → κ → EReal) (b : κ → EReal) : EReal := ∑ k, max (∑ i, x i * A i k) 0 * b k

/-- The expert on a weighted token is the weighted expert. -/
theorem ffn_mul {w : EReal} (h0 : 0 ≤ w) (ht : w ≠ ⊤) (x : ι → EReal) (A : ι → κ → EReal) (b : κ → EReal) :
    ffn (fun i => w * x i) A b = w * ffn x A b := by
  unfold ffn
  rw [mul_sum _ h0 ht]
  refine Finset.sum_congr rfl fun k _ => ?_
  rw [← mul_assoc, ← mul_relu h0, mul_sum _ h0 ht]
  simp only [mul_assoc]

/-- What the slots of one expert that hold a token add up to: the expert's result for the token times the sum of its weights
    there. -/
theorem slots_sum {σ : Type*} [Fintype σ] (held : σ → Prop) [DecidablePred held] (w : σ → EReal) (h0 : ∀ j, 0 ≤ w j) (ht : ∀ j, w j ≠ ⊤)
    (g : σ → ι → EReal) (x : ι → EReal) (A : ι → κ → EReal) (b : κ → EReal) (hg : ∀ j, held j → g j = fun i => w j * x i) :
    ∑ j, (if held j then (1 : EReal) else 0) * ffn (g j) A b = ffn x A b * ∑ j, if held j then w j else 0 := by
  rw [mul_sum_nonneg _ _ _ (fun j _ => by split <;> [exact h0 j; exact le_rfl])]
  refine Finset.sum_congr rfl fun j _ => ?_
  by_cases h : held j
  · rw [if_pos h, if_pos h, one_mul, hg j h, ffn_mul (h0 j) (ht j), mul_comm]
  · rw [if_neg h, if_neg h, zero_mul, mul_zero]

/-- A row picked out by a slot and weighted: of all rows times the slot's indicator only the slot's own remains. -/
theorem pick_sum {τ : Type*} [Fintype τ] [DecidableEq τ] (w : EReal) (p : τ → Prop) [DecidablePred p] (t : τ) (hp : ∀ s, p s ↔ s = t) (x : τ → EReal) :
    ∑ s, (if p s then w else 0) * x s = w * x t := by
  rw [Finset.sum_eq_single t]
  · rw [if_pos ((hp t).mpr rfl)]
  · exact fun s _ hs => by rw [if_neg (fun h => hs ((hp s).mp h)), zero_mul]
  · exact fun h => absurd (Finset.mem_univ t) h

end Cert.MoeMath

end
-- ==== Proof.KernelIdealPayloads.lean ====
/- The values the expert kernel computes at a grid point, element by element, at the extended reals: the weighted gather, one
   hidden block of an expert, and the scatter into the tokens' rows. -/
module

public import proofs.«01_k».proof.Proof.KernelIdealProtocol
public import Idealize.ShloMosaic.Lib.Pipeline.ValueKit
public import Idealize.ShloMosaic.Lib.MatmulPlain
public import Idealize.ShloMosaic.Lib.Affine
public import proofs.«01_k».proof.Proof.MoeMath

@[expose] public section

noncomputable section

namespace Cert.KernelIdealProof

open Cert.KernelIdeal Cert.KernelIdeal.Gen
open Idealize.ShloMosaic hiding ix1 ix2 ix3 ix4
open Idealize.ShloMosaic.TcCoe
open Idealize.ShloMosaic.ValueIdx
open scoped BigOperators

/-! ## Reading a leading unit axis, a product and a comparison -/

theorem tail_ix3 {n p q : ℕ} (a : Fin n) (j : Fin p) (d : Fin q) : (fun b : Fin 2 => ix3 a j d b.succ) = ix2 j d := by
  funext b
  match b with
  | ⟨0, _⟩ => rfl
  | ⟨1, _⟩ => rfl
theorem cons_ix2 {p q : ℕ} (j : Fin p) (d : Fin q) : (Fin.cons ⟨0, Nat.one_pos⟩ (ix2 j d) : (⟨3, ![1, p, q]⟩ : Shape).Idx) = ix3 0 j d := by
  funext b
  match b with
  | ⟨0, _⟩ => rfl
  | ⟨1, _⟩ => rfl
  | ⟨2, _⟩ => rfl

/-- A matrix under a leading unit axis, read without it. -/
theorem drop_apply {α : Type} {p q : ℕ} (v : (⟨3, ![1, p, q]⟩ : Shape).Idx → α) (h : (⟨3, ![1, p, q]⟩ : Shape).ShapeCasts ⟨2, ![p, q]⟩) (j : Fin p) (d : Fin q) :
    shapeCast ⟨2, ![p, q]⟩ v h (ix2 j d) = v (ix3 0 j d) :=
  (shapeCast_dropUnit_apply ![p, q] v h (ix2 j d)).trans (congrArg v (cons_ix2 j d))
/-- A matrix given a leading unit axis, read with it. -/
theorem add_apply {α : Type} {p q : ℕ} (v : (⟨2, ![p, q]⟩ : Shape).Idx → α) (h : (⟨2, ![p, q]⟩ : Shape).ShapeCasts ⟨3, ![1, p, q]⟩) (j : Fin p) (d : Fin q) :
    shapeCast ⟨3, ![1, p, q]⟩ v h (ix3 0 j d) = v (ix2 j d) :=
  (shapeCast_addUnit_apply ![p, q] v h (ix3 0 j d)).trans (congrArg v (tail_ix3 0 j d))

/-- A product into zero at an index. -/
theorem product_apply {M K N : ℕ} (l : FVec Ideal ⟨2, ![M, K]⟩ .f32) (r : FVec Ideal ⟨2, ![K, N]⟩ .f32) (i : Fin M) (j : Fin N) :
    FloatOps.matmul (DotDims.plain M K N) none l r (constant ⟨2, ![M, N]⟩ .f32 0x00000000#32) (ix2 i j) = ∑ k : Fin K, (l (ix2 i k) * r (ix2 k j) : EReal) := by
  rw [Ideal.matmul_plain_apply]
  show Ideal.ofBits .f32 0x00000000#32 + _ = _
  rw [Ideal.ofBits_zero_f32, zero_add]

/-- A selection on the equality of two words. -/
theorem select_cmpi {α : Type} {w : ℕ} (x y : BitVec w) (a b : α) : Scalar.select (IntOp.cmpi .eq x y) a b = if x = y then a else b := by
  by_cases h : x = y
  · rw [if_pos h, IntOp.cmpi_eq.mpr h]; rfl
  · rw [if_neg h, eq_zero_of_ne_one (fun h' => h (IntOp.cmpi_eq.mp h'))]; rfl

/-- The equality of two words as a number: one or zero. -/
theorem number_cmpi {w : ℕ} (x y : BitVec w) :
    (FloatOps.sitofp .f32 ((IntOp.cmpi .eq x y).setWidth 32) : Ideal .f32) = if x = y then (1 : EReal) else 0 := by
  by_cases h : x = y
  · rw [if_pos h, IntOp.cmpi_eq.mpr h]
    show (((((1#1 : BitVec 1).setWidth 32).toInt : ℤ) : ℝ) : EReal) = 1
    rw [show ((1#1 : BitVec 1).setWidth 32).toInt = 1 by decide]; simp
  · rw [if_neg h, eq_zero_of_ne_one (fun h' => h (IntOp.cmpi_eq.mp h'))]
    show (((((0#1 : BitVec 1).setWidth 32).toInt : ℤ) : ℝ) : EReal) = 0
    rw [show ((0#1 : BitVec 1).setWidth 32).toInt = 0 by decide]; simp

/-! ## The payloads -/

/-- The gather: of the tokens' rows those the slot's number names, times the slot's weight. -/
theorem gather_apply (p : Vec Ideal S1x304x1 .i32) (w : Vec Ideal S1x304x1 .f32) (x : Vec Ideal S2048x1024 .f32) (j : Fin 304) (d : Fin 1024) :
    k0_pay7 p w x (ix3 0 j d) = ∑ s : Fin 2048, ((if BitVec.ofNat 32 s.val = p (ix3 0 j 0) then w (ix3 0 j 0) else 0) * x (ix2 s d) : EReal) := by
  unfold k0_pay7
  refine (add_apply _ _ j d).trans ((product_apply (M := 304) (K := 2048) (N := 1024) _ _ j d).trans (Finset.sum_congr rfl fun s _ => ?_))
  rw [shapeCast_self, shapeCast_self, select_apply]
  show Scalar.select (IntOp.cmpi .eq _ _) _ (Ideal.ofBits .f32 0x00000000#32) * _ = _
  rw [select_cmpi, Ideal.ofBits_zero_f32]
  have hi : iota .tc S304x2048 32 [1] iota_S304x2048_d1_w32 (ix2 j s) = BitVec.ofNat 32 s.val := by
    show BitVec.ofNat 32 (0 * 2048 + s.val) = _; rw [Nat.zero_mul, Nat.zero_add]
  have hp : broadcastTo S304x2048 (shapeCast S304x1 p shapeCasts_S1x304x1_S304x1) broadcasts_S304x1_S304x2048 (ix2 j s) = p (ix3 0 j 0) :=
    (broadcastTo_apply _ _ _ (ix2 j 0) (fun a => by match a with | ⟨0, _⟩ => rfl | ⟨1, _⟩ => rfl)).trans (drop_apply p _ j 0)
  have hw : broadcastTo S304x2048 (shapeCast S304x1 w shapeCasts_S1x304x1_S304x1) broadcasts_S304x1_S304x2048 (ix2 j s) = w (ix3 0 j 0) :=
    (broadcastTo_apply _ _ _ (ix2 j 0) (fun a => by match a with | ⟨0, _⟩ => rfl | ⟨1, _⟩ => rfl)).trans (drop_apply w _ j 0)
  rw [hi, hp, hw]

/-- One hidden block of an expert. -/
theorem block_apply (g : Vec Ideal S1x304x1024 .f32) (A B : Vec Ideal S1x1024x1024 .f32) (j : Fin 304) (d : Fin 1024) :
    k0_pay1 g A B (ix2 j d) = MoeMath.ffn (fun i : Fin 1024 => g (ix3 0 j i)) (fun i k : Fin 1024 => A (ix3 0 i k)) (fun k : Fin 1024 => B (ix3 0 k d)) := by
  unfold k0_pay1 MoeMath.ffn
  refine (product_apply (M := 304) (K := 1024) (N := 1024) _ _ j d).trans (Finset.sum_congr rfl fun k _ => ?_)
  show max _ (Ideal.ofBits .f32 0x00000000#32) * _ = _
  rw [Ideal.ofBits_zero_f32]
  refine congrArg₂ (fun a b : EReal => max a 0 * b) ?_ (drop_apply B _ k d)
  refine (product_apply (M := 304) (K := 1024) (N := 1024) _ _ j k).trans (Finset.sum_congr rfl fun i _ => ?_)
  exact congrArg₂ (fun a b : EReal => a * b) (drop_apply g _ j i) (drop_apply A _ i k)

/-- An expert's first hidden block, stored. -/
theorem first_apply (g : Vec Ideal S1x304x1024 .f32) (A B : Vec Ideal S1x1024x1024 .f32) (j : Fin 304) (d : Fin 1024) :
    k0_pay2 g A B (ix3 0 j d) = k0_pay1 g A B (ix2 j d) := by
  unfold k0_pay2
  exact add_apply _ _ j d
/-- A later block, added to what is stored. -/
theorem next_apply (g : Vec Ideal S1x304x1024 .f32) (A B : Vec Ideal S1x1024x1024 .f32) (a : Vec Ideal S1x304x1024 .f32) (j : Fin 304) (d : Fin 1024) :
    k0_pay3 g A B a (ix3 0 j d) = (a (ix3 0 j d) + k0_pay1 g A B (ix2 j d) : EReal) := by
  unfold k0_pay3
  exact (add_apply _ _ j d).trans (congrArg (fun v : EReal => v + k0_pay1 g A B (ix2 j d)) (drop_apply a _ j d))

/-- Before any expert the sum is zero. -/
theorem zero_apply (t : Fin 2048) (d : Fin 1024) : k0_pay6 (F := Ideal) (ix2 t d) = (0 : EReal) := by
  unfold k0_pay6
  rw [shapeCast_self]
  exact Ideal.ofBits_zero_f32

/-- The scatter: each token's row gains the rows of the slots that hold it. -/
theorem scatter_apply (p : Vec Ideal S1x1x304 .i32) (s : Vec Ideal S2048x1024 .f32) (a : Vec Ideal S1x304x1024 .f32) (t : Fin 2048) (d : Fin 1024) :
    k0_pay8 p s a (ix2 t d) = (s (ix2 t d) + ∑ j : Fin 304, (if BitVec.ofNat 32 t.val = p (ix3 0 0 j) then (1 : EReal) else 0) * a (ix3 0 j d) : EReal) := by
  unfold k0_pay8
  rw [shapeCast_self]
  refine congrArg (fun v : EReal => s (ix2 t d) + v) ((product_apply (M := 2048) (K := 304) (N := 1024) _ _ t d).trans (Finset.sum_congr rfl fun j _ => ?_))
  refine congrArg₂ (fun a b : EReal => a * b) ((number_cmpi _ _).trans ?_) (drop_apply a _ j d)
  have hi : iota .tc S2048x304 32 [0] iota_S2048x304_d0_w32 (ix2 t j) = BitVec.ofNat 32 t.val := by
    show BitVec.ofNat 32 (0 * 2048 + t.val) = _; rw [Nat.zero_mul, Nat.zero_add]
  have hp : broadcastTo S2048x304 (shapeCast S1x304 p shapeCasts_S1x1x304_S1x304) broadcasts_S1x304_S2048x304 (ix2 t j) = p (ix3 0 0 j) :=
    (broadcastTo_apply _ _ _ (ix2 0 j) (fun a => by match a with | ⟨0, _⟩ => rfl | ⟨1, _⟩ => rfl)).trans (drop_apply p _ 0 j)
  rw [hi, hp]

/-- The result: the rows kept and the rows received, added. -/
theorem total_apply (a b : Vec Ideal S1024x1024 .f32) (i : S1024x1024.Idx) : k0_pay4 a b i = (a i + b i : EReal) := rfl

end Cert.KernelIdealProof

end
-- ==== Proof.KernelIdealResult.lean ====
/- What the expert kernel leaves on a device, as one sum: over its own experts and its partner's, each expert's result for the
   token times the sum of the weights of the slots that hold the token. -/
module

public import proofs.«01_k».proof.Proof.KernelIdealBlocks
public import proofs.«01_k».proof.Proof.KernelIdealPayloads

@[expose] public section

noncomputable section

namespace Cert.KernelIdealProof

open Cert.KernelIdeal Cert.KernelIdeal.Gen
open Idealize.ShloMosaic hiding ix1 ix2 ix3 ix4
open Idealize.ShloMosaic.TcCoe
open Idealize.ShloMosaic.ValueIdx
open scoped BigOperators

variable (m : (ℓ : Loc nD τ sig) → Buf (Elt Ideal) ℓ)

/-! ## A device's arrays by name -/

/-- The token number in slot `j` of expert `e`. -/
def held (c : Dev nD) (e : Fin 8) (j : Fin 304) : BitVec 32 := m ((c : Thread nD τ).loc main_arg0) (ix2 e j)
/-- The weight of slot `j` of expert `e`. -/
def wgt (c : Dev nD) (e : Fin 8) (j : Fin 304) : EReal := m ((c : Thread nD τ).loc main_arg1) (ix2 e j)
/-- Token `t`. -/
def tok (c : Dev nD) (t : Fin 2048) (d : Fin 1024) : EReal := m ((c : Thread nD τ).loc main_arg2) (ix2 t d)
/-- Expert `e`'s first matrix. -/
def upm (c : Dev nD) (e : Fin 8) (i : Fin 1024) (f : Fin 4096) : EReal := m ((c : Thread nD τ).loc main_arg3) (ix3 e i f)
/-- Expert `e`'s second matrix. -/
def dnm (c : Dev nD) (e : Fin 8) (f : Fin 4096) (d : Fin 1024) : EReal := m ((c : Thread nD τ).loc main_arg4) (ix3 e f d)

/-! ## One expert -/

/-- The weighted tokens of expert `e`. -/
theorem gath_apply (c : Dev nD) (e : Fin 8) (j : Fin 304) (d : Fin 1024) :
    gath m c e.val (ix3 0 j d) = ∑ s : Fin 2048, ((if BitVec.ofNat 32 s.val = held m c e j then wgt m c e j else 0) * tok m c s d : EReal) := by
  unfold gath
  rw [gather_apply, column_apply, weights_apply]
  exact Finset.sum_congr rfl fun s _ => congrArg _ (tokens_apply m c _ s d)

/-- Two token numbers below 2048 are the same word exactly when they are the same. -/
theorem word_eq (s t : Fin 2048) : BitVec.ofNat 32 s.val = BitVec.ofNat 32 t.val ↔ s = t := by
  refine ⟨fun h => Fin.ext ?_, fun h => by rw [h]⟩
  have h' := congrArg BitVec.toNat h
  rw [BitVec.toNat_ofNat, BitVec.toNat_ofNat, Nat.mod_eq_of_lt (by omega), Nat.mod_eq_of_lt (by omega)] at h'
  exact h'

/-- A slot that holds token `t` gathers its weight times that token. -/
theorem gath_held (c : Dev nD) (e : Fin 8) (j : Fin 304) (t : Fin 2048) (h : BitVec.ofNat 32 t.val = held m c e j) (d : Fin 1024) :
    gath m c e.val (ix3 0 j d) = (wgt m c e j * tok m c t d : EReal) := by
  rw [gath_apply]
  exact MoeMath.pick_sum (wgt m c e j) (fun s : Fin 2048 => BitVec.ofNat 32 s.val = held m c e j) t
    (fun s => ⟨fun hs => (word_eq s t).mp (hs.trans h.symm), fun hs => by rw [hs]; exact h⟩) (fun s => tok m c s d)

/-- A sum over the hidden units, block by block. -/
theorem sum_hidden (h : Fin 4096 → EReal) :
    ∑ k, h k = (∑ k, h (hidden 0 k)) + (∑ k, h (hidden 1 k)) + (∑ k, h (hidden 2 k)) + ∑ k, h (hidden 3 k) := by
  have e : ∑ f : Fin 4, ∑ k : Fin 1024, h (hidden f k) = ∑ k, h k := by
    rw [← Fintype.sum_prod_type' (fun (f : Fin 4) (k : Fin 1024) => h (hidden f k))]
    refine Fintype.sum_equiv (finProdFinEquiv (m := 4) (n := 1024)) _ h fun fk => congrArg h (Fin.ext ?_)
    show fk.1.val * 1024 + fk.2.val = fk.2.val + 1024 * fk.1.val
    omega
  rw [← e, Fin.sum_univ_four]

/-- One hidden block of expert `e` at slot `j`. -/
theorem hidden_block (c : Dev nD) (e : Fin 8) (f : Fin 4) (g : Vec Ideal S1x304x1024 .f32) (j : Fin 304) (d : Fin 1024) :
    k0_pay1 g (iblk m c 4 (pt (4 * e.val + f.val))) (iblk m c 5 (pt (4 * e.val + f.val))) (ix2 j d)
      = ∑ k : Fin 1024, (max (∑ i : Fin 1024, (g (ix3 0 j i) : EReal) * upm m c e i (hidden f k)) 0 * dnm m c e (hidden f k) d : EReal) := by
  rw [block_apply]
  unfold MoeMath.ffn
  refine Finset.sum_congr rfl fun k _ => ?_
  refine congrArg₂ (fun a b : EReal => max a 0 * b) (Finset.sum_congr rfl fun i _ => ?_) (down_apply m c e f k d)
  exact congrArg (fun b : EReal => (g (ix3 0 j i) : EReal) * b) (up_apply m c e f i k)

/-- The four blocks together: expert `e` on the gathered token in slot `j`. -/
theorem accum_apply (c : Dev nD) (e : Fin 8) (j : Fin 304) (d : Fin 1024) :
    accum m c e.val 3 (ix3 0 j d) = MoeMath.ffn (fun i : Fin 1024 => (gath m c e.val (ix3 0 j i) : EReal)) (upm m c e) (fun f => dnm m c e f d) := by
  have h0 : accum m c e.val 0 (ix3 0 j d) = _ := (first_apply _ _ _ j d).trans (hidden_block m c e 0 _ j d)
  have h1 : accum m c e.val 1 (ix3 0 j d) = _ := (next_apply _ _ _ _ j d).trans (congrArg₂ (fun a b : EReal => a + b) h0 (hidden_block m c e 1 _ j d))
  have h2 : accum m c e.val 2 (ix3 0 j d) = _ := (next_apply _ _ _ _ j d).trans (congrArg₂ (fun a b : EReal => a + b) h1 (hidden_block m c e 2 _ j d))
  have h3 : accum m c e.val 3 (ix3 0 j d) = _ := (next_apply _ _ _ _ j d).trans (congrArg₂ (fun a b : EReal => a + b) h2 (hidden_block m c e 3 _ j d))
  rw [h3]
  unfold MoeMath.ffn
  exact (sum_hidden (fun f => max (∑ i : Fin 1024, (gath m c e.val (ix3 0 j i) : EReal) * upm m c e i f) 0 * dnm m c e f d)).symm

/-! ## All experts of a device -/

/-- Expert `e`'s share of token `t`: its result for the token times the sum of the weights of its slots that hold it. -/
def share (c : Dev nD) (e : Fin 8) (t : Fin 2048) (d : Fin 1024) : EReal :=
  MoeMath.ffn (tok m c t) (upm m c e) (fun f => dnm m c e f d) * ∑ j : Fin 304, if BitVec.ofNat 32 t.val = held m c e j then wgt m c e j else 0

variable (hw : ∀ (c : Dev nD) (e : Fin 8) (j : Fin 304), 0 ≤ wgt m c e j ∧ wgt m c e j ≠ ⊤)
include hw

/-- One expert's scatter adds its share. -/
theorem parts_succ (c : Dev nD) (e : Fin 8) (t : Fin 2048) (d : Fin 1024) :
    parts m c (e.val + 1) (ix2 t d) = (parts m c e.val (ix2 t d) + share m c e t d : EReal) := by
  show k0_pay8 _ _ _ (ix2 t d) = _
  rw [scatter_apply]
  refine congrArg (fun v : EReal => parts m c e.val (ix2 t d) + v) ?_
  unfold share
  rw [← MoeMath.slots_sum (fun j => BitVec.ofNat 32 t.val = held m c e j) (wgt m c e) (fun j => (hw c e j).1) (fun j => (hw c e j).2)
    (fun j i => (gath m c e.val (ix3 0 j i) : EReal)) (tok m c t) (upm m c e) (fun f => dnm m c e f d)
    (fun j hj => funext fun i => gath_held m c e j t hj i)]
  refine Finset.sum_congr rfl fun j _ => ?_
  rw [row_apply, accum_apply]
  rfl

/-- After all of them the sum is the shares of the device's experts. -/
theorem parts_apply (c : Dev nD) (t : Fin 2048) (d : Fin 1024) : parts m c 8 (ix2 t d) = ∑ e : Fin 8, share m c e t d := by
  have h0 : parts m c 0 (ix2 t d) = (0 : EReal) := zero_apply t d
  rw [Fin.sum_univ_eight]
  have h1 := (parts_succ m hw c 0 t d).trans (congrArg (fun v : EReal => v + share m c 0 t d) (h0.trans rfl))
  have h2 := (parts_succ m hw c 1 t d).trans (congrArg (fun v : EReal => v + share m c 1 t d) h1)
  have h3 := (parts_succ m hw c 2 t d).trans (congrArg (fun v : EReal => v + share m c 2 t d) h2)
  have h4 := (parts_succ m hw c 3 t d).trans (congrArg (fun v : EReal => v + share m c 3 t d) h3)
  have h5 := (parts_succ m hw c 4 t d).trans (congrArg (fun v : EReal => v + share m c 4 t d) h4)
  have h6 := (parts_succ m hw c 5 t d).trans (congrArg (fun v : EReal => v + share m c 5 t d) h5)
  have h7 := (parts_succ m hw c 6 t d).trans (congrArg (fun v : EReal => v + share m c 6 t d) h6)
  have h8 := (parts_succ m hw c 7 t d).trans (congrArg (fun v : EReal => v + share m c 7 t d) h7)
  refine h8.trans ?_
  show 0 + _ + _ + _ + _ + _ + _ + _ + _ = _
  rw [zero_add]

/-- Row `r` of the half of the tokens that device `c` returns. -/
def rowOf (c : Dev nD) (r : Fin 1024) : Fin 2048 := ⟨1024 * (c.val / 4) + r.val, by have := half_lt c; omega⟩

/-- The kernel's result on a device: the shares of its experts and of its partner's. -/
theorem outv_apply (c : Dev nD) (r d : Fin 1024) :
    outv m c (ix2 r d) = ((∑ e : Fin 8, share m c e (rowOf c r) d) + ∑ e : Fin 8, share m (peer c) e (rowOf c r) d : EReal) := by
  have hk : View.ld (Val := Elt Ideal) (e' := .f32) (parts m c 8) (keptRect c) (ix2 r d) = parts m c 8 (ix2 (rowOf c r) d) := by
    refine congrArg (parts m c 8) (funext fun a => Fin.ext ?_)
    match a with
    | ⟨0, _⟩ => show k0_off7 c 0 + 1 * r.val = 1024 * (c.val / 4) + r.val; rw [k0_off7_eq]; show 1024 * (c.val / 4) + 1 * r.val = _; omega
    | ⟨1, _⟩ => show k0_off7 c 1 + 1 * d.val = d.val; rw [k0_off7_eq]; show 0 + 1 * d.val = _; omega
  have hs : recvd m c (ix2 r d) = parts m (peer c) 8 (ix2 (rowOf c r) d) := by
    refine congrArg (parts m (peer c) 8) (funext fun a => Fin.ext ?_)
    have hp := peer_half c
    have hc := half_lt c
    match a with
    | ⟨0, _⟩ => show k0_off6 (peer c) 0 + 1 * r.val = 1024 * (c.val / 4) + r.val; rw [k0_off6_eq]; show 1024 - 1024 * ((peer c).val / 4) + 1 * r.val = _; omega
    | ⟨1, _⟩ => show k0_off6 (peer c) 1 + 1 * d.val = d.val; rw [k0_off6_eq]; show 0 + 1 * d.val = _; omega
  unfold outv
  rw [total_apply, hk, hs, parts_apply m hw, parts_apply m hw]

end Cert.KernelIdealProof

end
-- ==== Proof.KernelIdealPre.lean ====
/- The precondition on the weights, in plain form: each weight of a device is at least zero and not infinite. -/
module

public import proofs.«01_k».proof.Proof.Gen.KernelIdeal
public import proofs.«01_k».proof.Defs
public import Idealize.ShloMosaic.Lib.IdealHost
public import Idealize.ShloMosaic.Lib.ReduceAll
public import Idealize.ShloMosaic.Lib.Affine
public import Idealize.ShloMosaic.Lib.Pipeline.ValueKit

@[expose] public section

noncomputable section

namespace Cert.KernelIdealProof

open Idealize.ShloMosaic hiding ix0 ix1 ix2 ix3 ix4
open Idealize.ShloMosaic.TcCoe
open Idealize.ShloMosaic.ValueIdx

/-- The shapes the precondition cites fit, for the kernel's arrays; -/
theorem preFacts : Cert.Pre_weights_ok_KernelIdeal.Facts := ⟨by decide, by decide, by decide⟩
/-- and for the plain program's. -/
theorem preFacts_reference : Cert.Pre_weights_ok_ReferenceIdeal.Facts := ⟨by decide, by decide, by decide⟩

/-- The pattern of infinity is the top of the extended reals. -/
theorem ofBits_top : Ideal.ofBits .f32 0x7F800000#32 = ⊤ := by
  simp [Ideal.ofBits, Ideal.ieee]

/-- Where the precondition holds every weight is at least zero and below infinity. -/
theorem weights_of_pre [Cert.Pre_weights_ok_KernelIdeal.Facts] (P : IVec Cert.Pre_weights_ok_KernelIdeal.S8x304 32)
    (W : FVec Ideal Cert.Pre_weights_ok_KernelIdeal.S8x304 .f32)
    (X : FVec Ideal Cert.Pre_weights_ok_KernelIdeal.S2048x1024 .f32) (A : FVec Ideal Cert.Pre_weights_ok_KernelIdeal.S8x1024x4096 .f32)
    (B : FVec Ideal Cert.Pre_weights_ok_KernelIdeal.S8x4096x1024 .f32)
    (h : Cert.Pre_weights_ok_KernelIdeal.fn P W X A B = fun _ => 1#1) (i : Cert.Pre_weights_ok_KernelIdeal.S8x304.Idx) :
    (0 : EReal) ≤ W i ∧ (W i : EReal) ≠ ⊤ := by
  have : Subsingleton Cert.Pre_weights_ok_KernelIdeal.S_.Idx := ⟨fun a b => (eq_ix0 a).trans (eq_ix0 b).symm⟩
  unfold Cert.Pre_weights_ok_KernelIdeal.fn at h
  have hi := Host.reduce_andi_all _ _ _ _ ix0 (congrFun h ix0) i
  obtain ⟨h0, h1⟩ := IntOp.andi_eq_one.1 hi
  have h0' : Ideal.cmp .oge (W i) (Ideal.ofBits .f32 0x00000000#32) = 1#1 := h0
  have h1' : Ideal.cmp .olt (W i) (Ideal.ofBits .f32 0x7F800000#32) = 1#1 := h1
  rw [Ideal.ofBits_zero_f32] at h0'
  rw [ofBits_top] at h1'
  have k0 : BitVec.ofBool (decide ((0 : EReal) ≤ W i)) = 1#1 := h0'
  have k1 : BitVec.ofBool (decide ((W i : EReal) < ⊤)) = 1#1 := h1'
  refine ⟨?_, ?_⟩
  · by_contra hn
    rw [decide_eq_false hn] at k0
    exact absurd k0 (by decide)
  · intro hn
    rw [decide_eq_false (fun hl : (W i : EReal) < ⊤ => absurd hn hl.ne)] at k1
    exact absurd k1 (by decide)

end Cert.KernelIdealProof

end
-- ==== Proof.ReferenceIdealValue.lean ====
/- What the plain program computes, element by element at the extended reals: each expert on each token, times the sum of the
   token's weights with that expert, summed over the experts. -/
module

public import proofs.«01_k».proof.Proof.Gen.ReferenceIdeal
public import proofs.«01_k».proof.Defs
public import proofs.«01_k».proof.Proof.MoeMath
public import Idealize.ShloMosaic.Lib.Pipeline.ValueKit
public import Idealize.ShloMosaic.Lib.Claim
public import Idealize.ShloMosaic.Lib.IdealHost
public import Idealize.ShloMosaic.Lib.Affine

@[expose] public section

noncomputable section

namespace Cert.ReferenceIdealProof

open Cert.ReferenceIdeal Cert.ReferenceIdeal.Gen
open Idealize.ShloMosaic hiding ix1 ix2 ix3 ix4
open Idealize.ShloMosaic.TcCoe
open Idealize.SL.Sem
open Idealize.ShloMosaic.ValueIdx
open scoped BigOperators

/-- The scalar zero the program's sums start from. -/
def zero : FVec Ideal S_ .f32 := constant S_ .f32 0x00000000#32
theorem zero_eq (i : S_.Idx) : zero i = (0 : EReal) := Ideal.ofBits_zero_f32

/-! ## The weights of the tokens -/

/-- Each token's weight with each expert. -/
def weight (P : IVec S16x304 32) (W : FVec Ideal S16x304 .f32) : FVec Ideal S16x2048 .f32 :=
  Host.reduceAdd (select
      (cmpi .eq (broadcastInDim S16x304x2048 ![0, 1, 2] bcast_S16x304x1_S16x304x2048_0_1_2 (broadcastInDim S16x304x1 ![0, 1] bcast_S16x304_S16x304x1_0_1 P))
        (broadcastInDim S16x304x2048 ![0, 1, 2] bcast_S1x1x2048_S16x304x2048_0_1_2 (broadcastInDim S1x1x2048 ![2] bcast_S2048_S1x1x2048_2 (iotaInDim S2048 32 0))))
      (broadcastInDim S16x304x2048 ![0, 1, 2] bcast_S16x304x1_S16x304x2048_0_1_2 (broadcastInDim S16x304x1 ![0, 1] bcast_S16x304_S16x304x1_0_1 W))
      (broadcastInDim S16x304x2048 ![] bcast_S_S16x304x2048 (id zero))) zero reducesTo_S16x304x2048_S16x2048_d1 h_S_

theorem reduces_slots : S16x304x2048.Reduces [1] S16x2048 := by decide
theorem reduces_experts : S16x2048x1024.Reduces [0] S2048x1024 := by decide

/-- It is the sum of the weights of the expert's slots that hold the token. -/
theorem weight_apply (P : IVec S16x304 32) (W : FVec Ideal S16x304 .f32) (e : Fin 16) (t : Fin 2048) :
    weight P W (ix2 e t) = ∑ j : Fin 304, (if BitVec.ofNat 32 t.val = P (ix2 e j) then W (ix2 e j) else 0 : EReal) := by
  unfold weight
  rw [hostReduceAdd_apply, Ideal.hostReduceAdd_single _ reduces_slots, zero_eq, zero_add]
  refine Finset.sum_congr rfl fun (j : Fin 304) _ => ?_
  have hl : reduces_slots.lift (ix2 e t) j = ix3 e j t := by
    funext a
    match a with
    | ⟨0, _⟩ => rfl
    | ⟨1, _⟩ => rfl
    | ⟨2, _⟩ => rfl
  rw [hl, select_apply]
  have hP : broadcastInDim S16x304x2048 ![0, 1, 2] bcast_S16x304x1_S16x304x2048_0_1_2 (broadcastInDim S16x304x1 ![0, 1] bcast_S16x304_S16x304x1_0_1 P) (ix3 e j t)
      = P (ix2 e j) :=
    (broadcastInDim_apply _ _ _ _ (ix3 e j 0) (fun a => by match a with | ⟨0, _⟩ => rfl | ⟨1, _⟩ => rfl | ⟨2, _⟩ => rfl)).trans
      (broadcastInDim_apply _ _ _ _ (ix2 e j) (fun a => by match a with | ⟨0, _⟩ => rfl | ⟨1, _⟩ => rfl))
  have hW : broadcastInDim S16x304x2048 ![0, 1, 2] bcast_S16x304x1_S16x304x2048_0_1_2 (broadcastInDim S16x304x1 ![0, 1] bcast_S16x304_S16x304x1_0_1 W) (ix3 e j t)
      = W (ix2 e j) :=
    (broadcastInDim_apply _ _ _ _ (ix3 e j 0) (fun a => by match a with | ⟨0, _⟩ => rfl | ⟨1, _⟩ => rfl | ⟨2, _⟩ => rfl)).trans
      (broadcastInDim_apply _ _ _ _ (ix2 e j) (fun a => by match a with | ⟨0, _⟩ => rfl | ⟨1, _⟩ => rfl))
  have hT : broadcastInDim S16x304x2048 ![0, 1, 2] bcast_S1x1x2048_S16x304x2048_0_1_2 (broadcastInDim S1x1x2048 ![2] bcast_S2048_S1x1x2048_2 (iotaInDim S2048 32 0)) (ix3 e j t)
      = BitVec.ofNat 32 t.val :=
    (broadcastInDim_apply _ _ _ _ (ix3 0 0 t) (fun a => by match a with | ⟨0, _⟩ => rfl | ⟨1, _⟩ => rfl | ⟨2, _⟩ => rfl)).trans
      (broadcastInDim_apply _ _ _ _ (ix1 t) (fun a => by match a with | ⟨0, _⟩ => rfl))
  have hZ : broadcastInDim S16x304x2048 ![] bcast_S_S16x304x2048 (id zero) (ix3 e j t) = (0 : EReal) :=
    (broadcastInDim_scalar_apply _ _ _).trans (zero_eq _)
  show Scalar.select (IntOp.cmpi .eq _ _) _ _ = _
  rw [hP, hW, hT, hZ]
  by_cases h : BitVec.ofNat 32 t.val = P (ix2 e j)
  · rw [if_pos h, IntOp.cmpi_eq.mpr h.symm]; rfl
  · rw [if_neg h, eq_zero_of_ne_one (fun h' => h (IntOp.cmpi_eq.mp h').symm)]; rfl

/-! ## The experts -/

/-- The hidden units before the maximum. -/
def up (A : FVec Ideal S16x1024x4096 .f32) (X : FVec Ideal S2048x1024 .f32) : FVec Ideal S16x4096x2048 .f32 :=
  Host.dotGeneral dot_S16x1024x4096_S2048x1024_S16x4096x2048_1_1_02_0_n_n none A X

theorem up_apply (A : FVec Ideal S16x1024x4096 .f32) (X : FVec Ideal S2048x1024 .f32) (e : Fin 16) (f : Fin 4096) (t : Fin 2048) :
    up A X (ix3 e f t) = ∑ i : Fin 1024, (X (ix2 t i) * A (ix3 e i f) : EReal) := by
  refine (Ideal.dotGeneral_apply _ _ _ _ _ _).trans ?_
  rw [← Equiv.sum_comp (contrEquiv1 dot_S16x1024x4096_S2048x1024_S16x4096x2048_1_1_02_0_n_n 1024 rfl rfl).symm]
  refine Finset.sum_congr rfl fun i _ => ?_
  have hi := contrEquiv1_symm_val dot_S16x1024x4096_S2048x1024_S16x4096x2048_1_1_02_0_n_n 1024 rfl rfl i
  have hl : dot_S16x1024x4096_S2048x1024_S16x4096x2048_1_1_02_0_n_n.lhsIdx (ix3 e f t)
      ((contrEquiv1 dot_S16x1024x4096_S2048x1024_S16x4096x2048_1_1_02_0_n_n 1024 rfl rfl).symm i) = ix3 e i f := by
    funext a; apply Fin.ext
    match a with
    | ⟨0, _⟩ => rfl
    | ⟨1, _⟩ => exact hi
    | ⟨2, _⟩ => rfl
  have hr : dot_S16x1024x4096_S2048x1024_S16x4096x2048_1_1_02_0_n_n.rhsIdx (ix3 e f t)
      ((contrEquiv1 dot_S16x1024x4096_S2048x1024_S16x4096x2048_1_1_02_0_n_n 1024 rfl rfl).symm i) = ix2 t i := by
    funext a; apply Fin.ext
    match a with
    | ⟨0, _⟩ => rfl
    | ⟨1, _⟩ => exact hi
  rw [hl, hr, mul_comm]

/-- The hidden units: the maximum with zero, token by token. -/
def hid (A : FVec Ideal S16x1024x4096 .f32) (X : FVec Ideal S2048x1024 .f32) : FVec Ideal S16x2048x4096 .f32 :=
  maximumf (transpose S16x2048x4096 [0, 2, 1] (up A X) transposes_S16x4096x2048_S16x2048x4096_0_2_1)
    (broadcastInDim S16x2048x4096 ![] bcast_S_S16x2048x4096 zero)

theorem hid_apply (A : FVec Ideal S16x1024x4096 .f32) (X : FVec Ideal S2048x1024 .f32) (e : Fin 16) (t : Fin 2048) (f : Fin 4096) :
    hid A X (ix3 e t f) = max (∑ i : Fin 1024, (X (ix2 t i) * A (ix3 e i f) : EReal)) 0 := by
  unfold hid
  rw [maximumf_apply]
  refine congrArg₂ (fun a b : EReal => max a b) ?_ ((broadcastInDim_scalar_apply _ _ _).trans (zero_eq _))
  refine (transpose_apply _ _ _ _ (ix3 e f t) fun b => ?_).trans (up_apply A X e f t)
  match b with
  | ⟨0, _⟩ => rfl
  | ⟨1, _⟩ => rfl
  | ⟨2, _⟩ => rfl

/-- The experts' results for every token. -/
def down (A : FVec Ideal S16x1024x4096 .f32) (B : FVec Ideal S16x4096x1024 .f32) (X : FVec Ideal S2048x1024 .f32) : FVec Ideal S16x2048x1024 .f32 :=
  Host.dotGeneral dot_S16x2048x4096_S16x4096x1024_S16x2048x1024_2_1_1_2_0_0 none (hid A X) B

theorem down_apply (A : FVec Ideal S16x1024x4096 .f32) (B : FVec Ideal S16x4096x1024 .f32) (X : FVec Ideal S2048x1024 .f32)
    (e : Fin 16) (t : Fin 2048) (d : Fin 1024) : down A B X (ix3 e t d)
      = MoeMath.ffn (fun i : Fin 1024 => (X (ix2 t i) : EReal)) (fun i f => A (ix3 e i f)) (fun f : Fin 4096 => B (ix3 e f d)) := by
  refine (Ideal.dotGeneral_apply _ _ _ _ _ _).trans ?_
  rw [← Equiv.sum_comp (contrEquiv1 dot_S16x2048x4096_S16x4096x1024_S16x2048x1024_2_1_1_2_0_0 4096 rfl rfl).symm]
  unfold MoeMath.ffn
  refine Finset.sum_congr rfl fun f _ => ?_
  have hf := contrEquiv1_symm_val dot_S16x2048x4096_S16x4096x1024_S16x2048x1024_2_1_1_2_0_0 4096 rfl rfl f
  have hl : dot_S16x2048x4096_S16x4096x1024_S16x2048x1024_2_1_1_2_0_0.lhsIdx (ix3 e t d)
      ((contrEquiv1 dot_S16x2048x4096_S16x4096x1024_S16x2048x1024_2_1_1_2_0_0 4096 rfl rfl).symm f) = ix3 e t f := by
    funext a; apply Fin.ext
    match a with
    | ⟨0, _⟩ => rfl
    | ⟨1, _⟩ => rfl
    | ⟨2, _⟩ => exact hf
  have hr : dot_S16x2048x4096_S16x4096x1024_S16x2048x1024_2_1_1_2_0_0.rhsIdx (ix3 e t d)
      ((contrEquiv1 dot_S16x2048x4096_S16x4096x1024_S16x2048x1024_2_1_1_2_0_0 4096 rfl rfl).symm f) = ix3 e f d := by
    funext a; apply Fin.ext
    match a with
    | ⟨0, _⟩ => rfl
    | ⟨1, _⟩ => exact hf
    | ⟨2, _⟩ => rfl
  rw [hl, hr, hid_apply]

/-! ## The result -/

/-- The program's result. -/
def result (P : IVec S16x304 32) (W : FVec Ideal S16x304 .f32) (X : FVec Ideal S2048x1024 .f32) (A : FVec Ideal S16x1024x4096 .f32)
    (B : FVec Ideal S16x4096x1024 .f32) : FVec Ideal S2048x1024 .f32 :=
  Host.reduceAdd (mulf (down A B X)
    (broadcastInDim S16x2048x1024 ![0, 1, 2] bcast_S16x2048x1_S16x2048x1024_0_1_2 (broadcastInDim S16x2048x1 ![0, 1] bcast_S16x2048_S16x2048x1_0_1 (weight P W))))
    zero reducesTo_S16x2048x1024_S2048x1024_d0 h_S_

/-- At each entry: over the experts, the expert's result for the token times the token's weight with it. -/
theorem result_apply (P : IVec S16x304 32) (W : FVec Ideal S16x304 .f32) (X : FVec Ideal S2048x1024 .f32) (A : FVec Ideal S16x1024x4096 .f32)
    (B : FVec Ideal S16x4096x1024 .f32) (t : Fin 2048) (d : Fin 1024) : result P W X A B (ix2 t d)
      = ∑ e : Fin 16, (MoeMath.ffn (fun i : Fin 1024 => (X (ix2 t i) : EReal)) (fun i f => A (ix3 e i f)) (fun f : Fin 4096 => B (ix3 e f d))
          * ∑ j : Fin 304, (if BitVec.ofNat 32 t.val = P (ix2 e j) then W (ix2 e j) else 0 : EReal)) := by
  unfold result
  rw [hostReduceAdd_apply, Ideal.hostReduceAdd_single _ reduces_experts, zero_eq, zero_add]
  refine Finset.sum_congr rfl fun (e : Fin 16) _ => ?_
  have hl : reduces_experts.lift (ix2 t d) e = ix3 e t d := by
    funext a
    match a with
    | ⟨0, _⟩ => rfl
    | ⟨1, _⟩ => rfl
    | ⟨2, _⟩ => rfl
  rw [hl, mulf_apply, down_apply]
  refine congrArg _ ((broadcastInDim_apply _ _ _ _ (ix3 e t 0) fun a => ?_).trans
    ((broadcastInDim_apply _ _ _ _ (ix2 e t) fun a => ?_).trans (weight_apply P W e t)))
  · match a with
    | ⟨0, _⟩ => rfl
    | ⟨1, _⟩ => rfl
    | ⟨2, _⟩ => rfl
  · match a with
    | ⟨0, _⟩ => rfl
    | ⟨1, _⟩ => rfl

/-! ## The run -/

variable (m : (ℓ : Loc nD τ sig) → Buf (Elt Ideal) ℓ) (ρ : Dev nD → PrngReg)

/-- The device's one array of each argument. -/
abbrev arr (b : Ref sig .tc) : Buf (Elt Ideal) (((0 : Dev nD).tc : Thread nD τ).loc b) := m (((0 : Dev nD).tc : Thread nD τ).loc b)

/-- The run ends with the result in place and the arguments as they were. -/
theorem run : θ_run (defs (F := Ideal)) (onTc (τ := τ) (main (F := Ideal))) ⟨m, fun _ => 0, ρ⟩ (fun r =>
      r.2.mem (((0 : Dev nD).tc : Thread nD τ).loc main_v17) = result (arr m main_arg0) (arr m main_arg1) (arr m main_arg2) (arr m main_arg3) (arr m main_arg4)
      ∧ (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0) := by
  hlo_run
  · rfl
  · exact fun _ => ⟨trivial, trivial, trivial, trivial, trivial⟩
  · exact sem_eq_zero_of_no_sems rfl _

/-- The plain program leaves its arguments and every counter as they were. -/
theorem quiescent_reference : Cert.quiescent_ReferenceIdeal := fun m g _ =>
  (θ_run defs _ _).mono (fun _ h => h.2) (run m g)

end Cert.ReferenceIdealProof

end
-- ==== Proof.KernelIdealValue.lean ====
/- The claims about the expert kernel at the extended reals: it runs and leaves everything but its result as it was, and with
   weights that are neither negative nor infinite its result on the mesh is the plain program's. -/
module

public import proofs.«01_k».proof.Proof.KernelIdealRun
public import proofs.«01_k».proof.Proof.KernelIdealResult
public import proofs.«01_k».proof.Proof.KernelIdealPre
public import proofs.«01_k».proof.Proof.ReferenceIdealValue
public import proofs.«01_k».proof.Defs
public import Idealize.ShloMosaic.Lib.Layout

@[expose] public section

noncomputable section

namespace Cert.KernelIdealProof

open Cert.KernelIdeal Cert.KernelIdeal.Gen
open Idealize.ShloMosaic hiding ix1 ix2 ix3 ix4 eq_ix2
open Idealize.ShloMosaic.TcCoe
open Idealize.SL.Sem
open Idealize.ShloMosaic.ValueIdx
open scoped BigOperators

/-! ## The blocks of the whole arrays -/

/-- Expert `e` of device `c` among all sixteen. -/
def expertOf (c : Dev nD) (e : Fin 8) : Fin 16 := ⟨c.val / 4 * 8 + e.val, by have := half_lt c; omega⟩

/-- Device `c`'s position on the axis the experts are cut along. -/
theorem lin_experts (c : Dev nD) : Layout.meshLin [2, 2, 2] c.val [0] = c.val / 4 := by revert c; decide

/-- A device's block of an array over slots is its experts' rows. -/
theorem block_slots {α : Type} (v : (⟨2, ![16, 304]⟩ : Shape).Idx → α) (c : Dev nD) (e : Fin 8) (j : Fin 304)
    (h : Layout.TilesN ⟨2, ![8, 304]⟩ ⟨2, ![16, 304]⟩ (fun b : Fin 2 => Layout.cutSize [2, 2, 2] ((![[0], []] : Fin 2 → List ℕ) b)) := by decide) :
    Layout.blockN ⟨2, ![8, 304]⟩ ⟨2, ![16, 304]⟩ (Layout.meshBlock [2, 2, 2] ![[0], []] c) v h (ix2 e j) = v (ix2 (expertOf c e) j) := by
  rw [Layout.blockN_apply]
  refine congrArg v (funext fun b => Fin.ext ?_)
  match b with
  | ⟨0, _⟩ => show Layout.meshLin [2, 2, 2] _ [0] * 8 + e.val = c.val / 4 * 8 + e.val; rw [lin_experts]
  | ⟨1, _⟩ => show 0 * 304 + j.val = j.val; omega

/-- A device's block of the first matrices is its experts'. -/
theorem block_up {α : Type} (v : (⟨3, ![16, 1024, 4096]⟩ : Shape).Idx → α) (c : Dev nD) (e : Fin 8) (i : Fin 1024) (f : Fin 4096)
    (h : Layout.TilesN ⟨3, ![8, 1024, 4096]⟩ ⟨3, ![16, 1024, 4096]⟩ (fun b : Fin 3 => Layout.cutSize [2, 2, 2] ((![[0], [], []] : Fin 3 → List ℕ) b)) := by decide) :
    Layout.blockN ⟨3, ![8, 1024, 4096]⟩ ⟨3, ![16, 1024, 4096]⟩ (Layout.meshBlock [2, 2, 2] ![[0], [], []] c) v h (ix3 e i f) = v (ix3 (expertOf c e) i f) := by
  rw [Layout.blockN_apply]
  refine congrArg v (funext fun b => Fin.ext ?_)
  match b with
  | ⟨0, _⟩ => show Layout.meshLin [2, 2, 2] _ [0] * 8 + e.val = c.val / 4 * 8 + e.val; rw [lin_experts]
  | ⟨1, _⟩ => show 0 * 1024 + i.val = i.val; omega
  | ⟨2, _⟩ => show 0 * 4096 + f.val = f.val; omega

/-- A device's block of the second matrices is its experts'. -/
theorem block_down {α : Type} (v : (⟨3, ![16, 4096, 1024]⟩ : Shape).Idx → α) (c : Dev nD) (e : Fin 8) (f : Fin 4096) (d : Fin 1024)
    (h : Layout.TilesN ⟨3, ![8, 4096, 1024]⟩ ⟨3, ![16, 4096, 1024]⟩ (fun b : Fin 3 => Layout.cutSize [2, 2, 2] ((![[0], [], []] : Fin 3 → List ℕ) b)) := by decide) :
    Layout.blockN ⟨3, ![8, 4096, 1024]⟩ ⟨3, ![16, 4096, 1024]⟩ (Layout.meshBlock [2, 2, 2] ![[0], [], []] c) v h (ix3 e f d) = v (ix3 (expertOf c e) f d) := by
  rw [Layout.blockN_apply]
  refine congrArg v (funext fun b => Fin.ext ?_)
  match b with
  | ⟨0, _⟩ => show Layout.meshLin [2, 2, 2] _ [0] * 8 + e.val = c.val / 4 * 8 + e.val; rw [lin_experts]
  | ⟨1, _⟩ => show 0 * 4096 + f.val = f.val; omega
  | ⟨2, _⟩ => show 0 * 1024 + d.val = d.val; omega

/-- A device's block of the result is its half of the tokens' rows. -/
theorem block_result {α : Type} (v : (⟨2, ![2048, 1024]⟩ : Shape).Idx → α) (c : Dev nD) (r d : Fin 1024)
    (h : Layout.TilesN ⟨2, ![1024, 1024]⟩ ⟨2, ![2048, 1024]⟩ (fun b : Fin 2 => Layout.cutSize [2, 2, 2] ((![[0], []] : Fin 2 → List ℕ) b)) := by decide) :
    Layout.blockN ⟨2, ![1024, 1024]⟩ ⟨2, ![2048, 1024]⟩ (Layout.meshBlock [2, 2, 2] ![[0], []] c) v h (ix2 r d) = v (ix2 (rowOf c r) d) := by
  rw [Layout.blockN_apply]
  refine congrArg v (funext fun b => Fin.ext ?_)
  match b with
  | ⟨0, _⟩ => show Layout.meshLin [2, 2, 2] _ [0] * 1024 + r.val = 1024 * (c.val / 4) + r.val; rw [lin_experts, Nat.mul_comm]
  | ⟨1, _⟩ => show 0 * 1024 + d.val = d.val; omega

/-! ## The two halves of the experts -/

/-- A sum over all experts is the sum over a device's and the sum over its partner's. -/
theorem sum_experts (h : Fin 16 → EReal) (c : Dev nD) : (∑ e : Fin 8, h (expertOf c e)) + ∑ e : Fin 8, h (expertOf (peer c) e) = ∑ e, h e := by
  have hs : ∑ e, h e = (∑ e : Fin 8, h (Fin.castAdd 8 e)) + ∑ e : Fin 8, h (Fin.natAdd 8 e) := Fin.sum_univ_add (a := 8) (b := 8) h
  have hp := peer_half c
  have hc := half_lt c
  have lo : ∀ d : Dev nD, d.val / 4 = 0 → ∀ e, expertOf d e = Fin.castAdd 8 e := fun d hd e => Fin.ext (by show d.val / 4 * 8 + e.val = e.val; omega)
  have hi : ∀ d : Dev nD, d.val / 4 = 1 → ∀ e, expertOf d e = Fin.natAdd 8 e := fun d hd e => Fin.ext (by show d.val / 4 * 8 + e.val = 8 + e.val; omega)
  rw [hs]
  rcases (show c.val / 4 = 0 ∨ c.val / 4 = 1 by omega) with h0 | h1
  · have hq : (peer c).val / 4 = 1 := by omega
    simp only [lo c h0, hi (peer c) hq]
  · have hq : (peer c).val / 4 = 0 := by omega
    simp only [hi c h1, lo (peer c) hq]
    exact add_comm _ _

/-! ## The claims -/

/-- The kernel runs, and leaves its arguments and every counter as they were. -/
theorem quiescent : Cert.quiescent_KernelIdeal := fun m g _ =>
  (θ_run defs _ _).mono (fun _ h => ⟨fun c => ⟨(h.1 c).1, (h.1 c).2.1, (h.1 c).2.2.1, (h.1 c).2.2.2.1, (h.1 c).2.2.2.2.1⟩, h.2⟩) (run_main m g)

/-- Device by device the kernel's result is the device's rows of the plain program's. -/
theorem result_eq (m : (ℓ : Loc nD τ sig) → Buf (Elt Ideal) ℓ)
    (hw : ∀ (c : Dev nD) (e : Fin 8) (j : Fin 304), 0 ≤ wgt m c e j ∧ wgt m c e j ≠ ⊤)
    (P : IVec Cert.ReferenceIdeal.S16x304 32) (W : FVec Ideal Cert.ReferenceIdeal.S16x304 .f32) (X : FVec Ideal Cert.ReferenceIdeal.S2048x1024 .f32)
    (A : FVec Ideal Cert.ReferenceIdeal.S16x1024x4096 .f32) (B : FVec Ideal Cert.ReferenceIdeal.S16x4096x1024 .f32)
    (hP : ∀ c : Dev nD, m ((c : Thread nD τ).loc main_arg0) = Layout.blockN ⟨2, ![8, 304]⟩ ⟨2, ![16, 304]⟩ (Layout.meshBlock [2, 2, 2] ![[0], []] c) P)
    (hW : ∀ c : Dev nD, m ((c : Thread nD τ).loc main_arg1) = Layout.blockN ⟨2, ![8, 304]⟩ ⟨2, ![16, 304]⟩ (Layout.meshBlock [2, 2, 2] ![[0], []] c) W)
    (hX : ∀ c : Dev nD, m ((c : Thread nD τ).loc main_arg2) = X)
    (hA : ∀ c : Dev nD, m ((c : Thread nD τ).loc main_arg3)
      = Layout.blockN ⟨3, ![8, 1024, 4096]⟩ ⟨3, ![16, 1024, 4096]⟩ (Layout.meshBlock [2, 2, 2] ![[0], [], []] c) A)
    (hB : ∀ c : Dev nD, m ((c : Thread nD τ).loc main_arg4)
      = Layout.blockN ⟨3, ![8, 4096, 1024]⟩ ⟨3, ![16, 4096, 1024]⟩ (Layout.meshBlock [2, 2, 2] ![[0], [], []] c) B) (c : Dev nD) :
    outv m c = Layout.blockN ⟨2, ![1024, 1024]⟩ ⟨2, ![2048, 1024]⟩ (Layout.meshBlock [2, 2, 2] ![[0], []] c) (Cert.ReferenceIdealProof.result P W X A B) := by
  have hs : ∀ (a : Dev nD) (e : Fin 8) (t : Fin 2048) (d : Fin 1024), share m a e t d
      = MoeMath.ffn (fun i : Fin 1024 => (X (ix2 t i) : EReal)) (fun i f => A (ix3 (expertOf a e) i f)) (fun f : Fin 4096 => B (ix3 (expertOf a e) f d))
          * ∑ j : Fin 304, (if BitVec.ofNat 32 t.val = P (ix2 (expertOf a e) j) then W (ix2 (expertOf a e) j) else 0 : EReal) := by
    intro a e t d
    have kP : held m a e = fun j => P (ix2 (expertOf a e) j) := funext fun j => (congrFun (hP a) (ix2 e j)).trans (block_slots P a e j)
    have kW : wgt m a e = fun j => W (ix2 (expertOf a e) j) := funext fun j => (congrFun (hW a) (ix2 e j)).trans (block_slots W a e j)
    have kX : tok m a t = fun i => X (ix2 t i) := funext fun i => congrFun (hX a) (ix2 t i)
    have kA : upm m a e = fun i f => A (ix3 (expertOf a e) i f) := funext fun i => funext fun f => (congrFun (hA a) (ix3 e i f)).trans (block_up A a e i f)
    have kB : (fun f => dnm m a e f d) = fun f => B (ix3 (expertOf a e) f d) := funext fun f => (congrFun (hB a) (ix3 e f d)).trans (block_down B a e f d)
    unfold share
    rw [kP, kW, kX, kA, kB]
  funext i
  obtain ⟨r, d, rfl⟩ : ∃ r d : Fin 1024, i = ix2 r d := ⟨i 0, i 1, eq_ix2 i⟩
  refine (outv_apply m hw c r d).trans (Eq.trans ?_ (block_result _ c r d).symm)
  rw [Cert.ReferenceIdealProof.result_apply]
  simp only [hs]
  exact sum_experts (fun e => MoeMath.ffn (fun k : Fin 1024 => (X (ix2 (rowOf c r) k) : EReal)) (fun k f => A (ix3 e k f)) (fun f : Fin 4096 => B (ix3 e f d))
          * ∑ j : Fin 304, (if BitVec.ofNat 32 (rowOf c r).val = P (ix2 e j) then W (ix2 e j) else 0 : EReal)) c

/-- With weights that are neither negative nor infinite the kernel on the mesh and the plain program end with one result, every
    device with its rows of it. -/
theorem algebraic [Cert.Pre_weights_ok_KernelIdeal.Facts] : Cert.algebraic_KernelIdeal_ReferenceIdeal_pre_weights_ok_KernelIdeal := by
  intro m g m' g' hpre hagree
  have hw : ∀ (c : Dev nD) (e : Fin 8) (j : Fin 304), 0 ≤ wgt m c e j ∧ wgt m c e j ≠ ⊤ := fun c e j => weights_of_pre _ _ _ _ _ (hpre c) (ix2 e j)
  refine ⟨Cert.ReferenceIdealProof.result (Cert.ReferenceIdealProof.arr m' Cert.ReferenceIdeal.main_arg0) (Cert.ReferenceIdealProof.arr m' Cert.ReferenceIdeal.main_arg1)
    (Cert.ReferenceIdealProof.arr m' Cert.ReferenceIdeal.main_arg2) (Cert.ReferenceIdealProof.arr m' Cert.ReferenceIdeal.main_arg3)
    (Cert.ReferenceIdealProof.arr m' Cert.ReferenceIdeal.main_arg4), (θ_run defs _ _).mono (fun r h c => ?_) (run_main m g), ?_⟩
  · exact ⟨(h.1 c).2.2.2.2.2.trans (result_eq m hw _ _ _ _ _ (fun d => (hagree d).1) (fun d => (hagree d).2.1) (fun d => (hagree d).2.2.1)
      (fun d => (hagree d).2.2.2.1) (fun d => (hagree d).2.2.2.2) c), (h.1 c).1, (h.1 c).2.1, (h.1 c).2.2.1, (h.1 c).2.2.2.1, (h.1 c).2.2.2.2.1⟩
  · exact (θ_run Cert.ReferenceIdeal.defs _ _).mono (fun _ h => ⟨h.1, h.2.1 0⟩) (Cert.ReferenceIdealProof.run m' g')

end Cert.KernelIdealProof

end
-- ==== Proof.lean ====
module

public import proofs.«01_k».proof.Defs
public import proofs.«01_k».proof.Proof.DispatchValue
public import proofs.«01_k».proof.Proof.KernelValue
public import proofs.«01_k».proof.Proof.KernelIdealValue

@[expose] public section

noncomputable section

namespace Cert.Proof

open Idealize.ShloMosaic Idealize.SL.Sem

/-- Everything the certificate claims. -/
theorem claim : Cert.Claim :=
  ⟨Cert.Dispatch.Gen.facts, Cert.DispatchReference.Gen.facts, Cert.Kernel.Gen.facts, Cert.KernelIdeal.Gen.facts,
    Cert.ReferenceIdeal.Gen.facts, Cert.KernelIdealProof.preFacts, Cert.KernelIdealProof.preFacts_reference,
    fun m g _ => Cert.DispatchProof.quiescent m g, Cert.DispatchProof.quiescent_reference, Cert.KernelProof.quiescent,
    Cert.KernelIdealProof.quiescent, fun m g _ => Cert.KernelIdealProof.quiescent m g trivial,
    Cert.ReferenceIdealProof.quiescent_reference, fun m g _ => Cert.ReferenceIdealProof.quiescent_reference m g trivial,
    Cert.DispatchProof.bitexact, trivial,
    @Cert.KernelIdealProof.algebraic Cert.KernelIdealProof.preFacts⟩

end Cert.Proof

end
